-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys_KernelIdeal [hPre_finite_queries_and_keys_KernelIdeal : Cert.Pre_finite_queries_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys_ReferenceIdeal [hPre_finite_queries_and_keys_ReferenceIdeal : Cert.Pre_finite_queries_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys_KernelIdeal [hKernelIdeal : Cert.KernelIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys_ReferenceIdeal [hReferenceIdeal : Cert.ReferenceIdeal.Facts] [hPre_finite_queries_and_keys_ReferenceIdeal : Cert.Pre_finite_queries_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt_d" .bf16 0x3D35#16 (((Real.sqrt 512)⁻¹ : ℝ) : EReal)

def algebraic_KernelIdeal_ReferenceIdeal_pre_finite_queries_and_keys_KernelIdeal [hKernelIdeal : Cert.KernelIdeal.Facts] [hReferenceIdeal : Cert.ReferenceIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![16384, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![16384, 512]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 512]⟩ ⟨2, ![16384, 512]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![16384, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_and_keys_KernelIdeal : Cert.Pre_finite_queries_and_keys_KernelIdeal.Facts) (hPre_finite_queries_and_keys_ReferenceIdeal : Cert.Pre_finite_queries_and_keys_ReferenceIdeal.Facts),
    quiescent_Kernel (hKernel := hKernel)
    ∧ quiescent_KernelIdeal (hKernelIdeal := hKernelIdeal)
    ∧ quiescent_KernelIdeal_pre_finite_queries_and_keys_KernelIdeal (hKernelIdeal := hKernelIdeal) (hPre_finite_queries_and_keys_KernelIdeal := hPre_finite_queries_and_keys_KernelIdeal)
    ∧ quiescent_ReferenceIdeal (hReferenceIdeal := hReferenceIdeal)
    ∧ quiescent_ReferenceIdeal_pre_finite_queries_and_keys_ReferenceIdeal (hReferenceIdeal := hReferenceIdeal) (hPre_finite_queries_and_keys_ReferenceIdeal := hPre_finite_queries_and_keys_ReferenceIdeal)
    ∧ preserves_Kernel_KernelIdeal
    ∧ algebraic_KernelIdeal_ReferenceIdeal_pre_finite_queries_and_keys_KernelIdeal (hKernelIdeal := hKernelIdeal) (hReferenceIdeal := hReferenceIdeal) (hPre_finite_queries_and_keys_KernelIdeal := hPre_finite_queries_and_keys_KernelIdeal)
-- ==== Pre_finite_queries_and_keys_KernelIdeal.lean ====
abbrev S4096x512 : Shape := ⟨2, ![4096, 512]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .bf16) (main_arg1 : FVec F S4096x512 .bf16) (main_arg2 : FVec F S4096x512 .bf16) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  main_v10
-- ==== Pre_finite_queries_and_keys_ReferenceIdeal.lean ====
abbrev S16384x512 : Shape := ⟨2, ![16384, 512]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .bf16) (main_arg1 : FVec F S16384x512 .bf16) (main_arg2 : FVec F S16384x512 .bf16) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  main_v10
-- ==== Kernel.lean ====
abbrev S4096x512 : Shape := ⟨2, ![4096, 512]⟩
abbrev S3x4096x512 : Shape := ⟨3, ![3, 4096, 512]⟩
abbrev S4096x1 : Shape := ⟨2, ![4096, 1]⟩
abbrev S12 : Shape := ⟨1, ![12]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩
abbrev S256x2048 : Shape := ⟨2, ![256, 2048]⟩
abbrev S1x4096x512 : Shape := ⟨3, ![1, 4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .f32⟩
  | .local _ .vmem, ⟨4, _⟩ => ⟨S3x4096x512, .bf16⟩
  | .local _ .vmem, ⟨5, _⟩ => ⟨S3x4096x512, .bf16⟩
  | .local _ .vmem, ⟨6, _⟩ => ⟨S4096x1, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_13 : BitVec 32 := 1#32
  let v13 : BitVec 32 := Scalar.muli v7 c1_i32_13
  let v14 : BitVec 32 := Scalar.addi c0_i32_14 v13
  v14.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_22 : BitVec 32 := 1#32
  let v22 : BitVec 32 := Scalar.muli v5 c1_i32_22
  let v23 : BitVec 32 := Scalar.addi c0_i32_23 v22
  v23.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_30 : BitVec 32 := 1#32
  let v31 : BitVec 32 := Scalar.muli v7 c1_i32_30
  let v32 : BitVec 32 := Scalar.addi c0_i32_31 v31
  v32.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_38 : BitVec 32 := 1#32
  let v40 : BitVec 32 := Scalar.muli v5 c1_i32_38
  let v41 : BitVec 32 := Scalar.addi c0_i32_39 v40
  v41.toNat
def k0_dev7 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_47 : BitVec 32 := 1#32
  let v49 : BitVec 32 := Scalar.muli v7 c1_i32_47
  let v50 : BitVec 32 := Scalar.addi c0_i32_48 v49
  v50.toNat
def k0_dev8 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_55 : BitVec 32 := 1#32
  let v58 : BitVec 32 := Scalar.muli v5 c1_i32_55
  let v59 : BitVec 32 := Scalar.addi c0_i32_56 v58
  v59.toNat
def k0_dev9 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_63 : BitVec 32 := 1#32
  let v67 : BitVec 32 := Scalar.muli v7 c1_i32_63
  let v68 : BitVec 32 := Scalar.addi c0_i32_64 v67
  v68.toNat
def k0_dev10 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_71 : BitVec 32 := 1#32
  let v76 : BitVec 32 := Scalar.muli v5 c1_i32_71
  let v77 : BitVec 32 := Scalar.addi c0_i32_72 v76
  v77.toNat
@[reducible] def k0_t1_loop : Scf.Loop 32 :=
  let c0_i32_80 : BitVec 32 := 0#32
  let c16_i32 : BitVec 32 := 16#32
  let v89 : BitVec 32 := Scalar.addi c0_i32_80 c16_i32
  let c1_i32_81 : BitVec 32 := 1#32
  ⟨c0_i32_80, v89, c1_i32_81⟩
def k0_off1 (k0_t1 : Fin k0_t1_loop.trips) : Fin 2 → Nat :=
  let c0_i32_80 : BitVec 32 := 0#32
  let c1_i32_81 : BitVec 32 := 1#32
  let arg9 : BitVec 32 := Scf.iv c0_i32_80 c1_i32_81 k0_t1
  let c256_i32 : BitVec 32 := 256#32
  let v308 : BitVec 32 := Scalar.muli arg9 c256_i32
  let v309 : Index := Scalar.indexCast v308
  let c0_382 : Index := 0#32
  ![v309.toNat, 0]
def k0_off2 (k0_t1 : Fin k0_t1_loop.trips) : Fin 2 → Nat :=
  let c0_i32_80 : BitVec 32 := 0#32
  let c1_i32_81 : BitVec 32 := 1#32
  let arg9 : BitVec 32 := Scf.iv c0_i32_80 c1_i32_81 k0_t1
  let c256_i32 : BitVec 32 := 256#32
  let v308 : BitVec 32 := Scalar.muli arg9 c256_i32
  let v320 : Index := Scalar.indexCast v308
  let c0_386 : Index := 0#32
  ![v320.toNat, 0]
def k0_dev11 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_104 : BitVec 32 := 1#32
  let v104 : BitVec 32 := Scalar.muli v7 c1_i32_104
  let v105 : BitVec 32 := Scalar.addi c0_i32_105 v104
  v105.toNat
def k0_dev12 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v114 : BitVec 32 := Scalar.muli v7 c1_i32_113
  let v115 : BitVec 32 := Scalar.addi c0_i32_114 v114
  v115.toNat
def k0_dev13 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_140 : BitVec 32 := 1#32
  let v138 : BitVec 32 := Scalar.muli v5 c1_i32_140
  let v139 : BitVec 32 := Scalar.addi c0_i32_141 v138
  v139.toNat
def k0_dev14 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_149 : BitVec 32 := 1#32
  let v148 : BitVec 32 := Scalar.muli v5 c1_i32_149
  let v149 : BitVec 32 := Scalar.addi c0_i32_150 v148
  v149.toNat
@[reducible] def k0_t2_loop : Scf.Loop 32 :=
  let c0_i32_161 : BitVec 32 := 0#32
  let c16_i32_162 : BitVec 32 := 16#32
  let v162 : BitVec 32 := Scalar.addi c0_i32_161 c16_i32_162
  let c1_i32_163 : BitVec 32 := 1#32
  ⟨c0_i32_161, v162, c1_i32_163⟩
def k0_off3 (k0_t2 : Fin k0_t2_loop.trips) : Fin 2 → Nat :=
  let c0_i32_161 : BitVec 32 := 0#32
  let c1_i32_163 : BitVec 32 := 1#32
  let arg9 : BitVec 32 := Scf.iv c0_i32_161 c1_i32_163 k0_t2
  let c256_i32 : BitVec 32 := 256#32
  let v308 : BitVec 32 := Scalar.muli arg9 c256_i32
  let v309 : Index := Scalar.indexCast v308
  let c0_382 : Index := 0#32
  ![v309.toNat, 0]
def k0_off4 (k0_t2 : Fin k0_t2_loop.trips) : Fin 2 → Nat :=
  let c0_i32_161 : BitVec 32 := 0#32
  let c1_i32_163 : BitVec 32 := 1#32
  let arg9 : BitVec 32 := Scf.iv c0_i32_161 c1_i32_163 k0_t2
  let c256_i32 : BitVec 32 := 256#32
  let v308 : BitVec 32 := Scalar.muli arg9 c256_i32
  let v320 : Index := Scalar.indexCast v308
  let c0_386 : Index := 0#32
  ![v320.toNat, 0]
@[reducible] def k0_t3_loop : Scf.Loop 32 :=
  let c0_i32_169 : BitVec 32 := 0#32
  let c16_i32_170 : BitVec 32 := 16#32
  let v167 : BitVec 32 := Scalar.addi c0_i32_169 c16_i32_170
  let c1_i32_171 : BitVec 32 := 1#32
  ⟨c0_i32_169, v167, c1_i32_171⟩
def k0_off5 (k0_t3 : Fin k0_t3_loop.trips) : Fin 2 → Nat :=
  let c0_i32_169 : BitVec 32 := 0#32
  let c1_i32_171 : BitVec 32 := 1#32
  let arg9 : BitVec 32 := Scf.iv c0_i32_169 c1_i32_171 k0_t3
  let c256_i32 : BitVec 32 := 256#32
  let v308 : BitVec 32 := Scalar.muli arg9 c256_i32
  let v309 : Index := Scalar.indexCast v308
  let c0_382 : Index := 0#32
  ![v309.toNat, 0]
def k0_off6 (k0_t3 : Fin k0_t3_loop.trips) : Fin 2 → Nat :=
  let c0_i32_169 : BitVec 32 := 0#32
  let c1_i32_171 : BitVec 32 := 1#32
  let arg9 : BitVec 32 := Scf.iv c0_i32_169 c1_i32_171 k0_t3
  let c256_i32 : BitVec 32 := 256#32
  let v308 : BitVec 32 := Scalar.muli arg9 c256_i32
  let v320 : Index := Scalar.indexCast v308
  let c0_386 : Index := 0#32
  ![v320.toNat, 0]
@[reducible] def k0_t4_loop : Scf.Loop 32 :=
  let c0_i32_197 : BitVec 32 := 0#32
  let c16_i32_198 : BitVec 32 := 16#32
  let v186 : BitVec 32 := Scalar.addi c0_i32_197 c16_i32_198
  let c1_i32_199 : BitVec 32 := 1#32
  ⟨c0_i32_197, v186, c1_i32_199⟩
def k0_off7 (k0_t4 : Fin k0_t4_loop.trips) : Fin 2 → Nat :=
  let c0_i32_197 : BitVec 32 := 0#32
  let c1_i32_199 : BitVec 32 := 1#32
  let arg9 : BitVec 32 := Scf.iv c0_i32_197 c1_i32_199 k0_t4
  let c256_i32 : BitVec 32 := 256#32
  let v308 : BitVec 32 := Scalar.muli arg9 c256_i32
  let v309 : Index := Scalar.indexCast v308
  let c0_382 : Index := 0#32
  ![v309.toNat, 0]
def k0_off8 (k0_t4 : Fin k0_t4_loop.trips) : Fin 2 → Nat :=
  let c0_i32_197 : BitVec 32 := 0#32
  let c1_i32_199 : BitVec 32 := 1#32
  let arg9 : BitVec 32 := Scf.iv c0_i32_197 c1_i32_199 k0_t4
  let c256_i32 : BitVec 32 := 256#32
  let v308 : BitVec 32 := Scalar.muli arg9 c256_i32
  let v320 : Index := Scalar.indexCast v308
  let c0_386 : Index := 0#32
  ![v320.toNat, 0]
@[reducible] def k0_t5_loop : Scf.Loop 32 :=
  let c0_i32_225 : BitVec 32 := 0#32
  let c16_i32_226 : BitVec 32 := 16#32
  let v205 : BitVec 32 := Scalar.addi c0_i32_225 c16_i32_226
  let c1_i32_227 : BitVec 32 := 1#32
  ⟨c0_i32_225, v205, c1_i32_227⟩
def k0_off9 (k0_t5 : Fin k0_t5_loop.trips) : Fin 2 → Nat :=
  let c0_i32_225 : BitVec 32 := 0#32
  let c1_i32_227 : BitVec 32 := 1#32
  let arg9 : BitVec 32 := Scf.iv c0_i32_225 c1_i32_227 k0_t5
  let c256_i32 : BitVec 32 := 256#32
  let v308 : BitVec 32 := Scalar.muli arg9 c256_i32
  let v309 : Index := Scalar.indexCast v308
  let c0_382 : Index := 0#32
  ![v309.toNat, 0]
def k0_off10 (k0_t5 : Fin k0_t5_loop.trips) : Fin 2 → Nat :=
  let c0_i32_225 : BitVec 32 := 0#32
  let c1_i32_227 : BitVec 32 := 1#32
  let arg9 : BitVec 32 := Scf.iv c0_i32_225 c1_i32_227 k0_t5
  let c256_i32 : BitVec 32 := 256#32
  let v308 : BitVec 32 := Scalar.muli arg9 c256_i32
  let v320 : Index := Scalar.indexCast v308
  let c0_386 : Index := 0#32
  ![v320.toNat, 0]
@[reducible] def k0_t6_loop : Scf.Loop 32 :=
  let c0_i32_274 : BitVec 32 := 0#32
  let c16_i32_275 : BitVec 32 := 16#32
  let v242 : BitVec 32 := Scalar.addi c0_i32_274 c16_i32_275
  let c1_i32_276 : BitVec 32 := 1#32
  ⟨c0_i32_274, v242, c1_i32_276⟩
def k0_off11 (k0_t6 : Fin k0_t6_loop.trips) : Fin 2 → Nat :=
  let c0_i32_274 : BitVec 32 := 0#32
  let c1_i32_276 : BitVec 32 := 1#32
  let arg9 : BitVec 32 := Scf.iv c0_i32_274 c1_i32_276 k0_t6
  let c256_i32 : BitVec 32 := 256#32
  let v308 : BitVec 32 := Scalar.muli arg9 c256_i32
  let v309 : Index := Scalar.indexCast v308
  let c0_382 : Index := 0#32
  ![v309.toNat, 0]
def k0_off12 (k0_t6 : Fin k0_t6_loop.trips) : Fin 2 → Nat :=
  let c0_i32_274 : BitVec 32 := 0#32
  let c1_i32_276 : BitVec 32 := 1#32
  let arg9 : BitVec 32 := Scf.iv c0_i32_274 c1_i32_276 k0_t6
  let c256_i32 : BitVec 32 := 256#32
  let v308 : BitVec 32 := Scalar.muli arg9 c256_i32
  let v320 : Index := Scalar.indexCast v308
  let c0_386 : Index := 0#32
  ![v320.toNat, 0]
@[reducible] def k0_t7_loop : Scf.Loop 32 :=
  let c0_i32_278 : BitVec 32 := 0#32
  let c16_i32_279 : BitVec 32 := 16#32
  let v243 : BitVec 32 := Scalar.addi c0_i32_278 c16_i32_279
  let c1_i32_280 : BitVec 32 := 1#32
  ⟨c0_i32_278, v243, c1_i32_280⟩
def k0_off13 (k0_t7 : Fin k0_t7_loop.trips) : Fin 2 → Nat :=
  let c0_i32_278 : BitVec 32 := 0#32
  let c1_i32_280 : BitVec 32 := 1#32
  let arg9 : BitVec 32 := Scf.iv c0_i32_278 c1_i32_280 k0_t7
  let c256_i32 : BitVec 32 := 256#32
  let v308 : BitVec 32 := Scalar.muli arg9 c256_i32
  let v309 : Index := Scalar.indexCast v308
  let c0_382 : Index := 0#32
  ![v309.toNat, 0]
def k0_off14 (k0_t7 : Fin k0_t7_loop.trips) : Fin 2 → Nat :=
  let c0_i32_278 : BitVec 32 := 0#32
  let c1_i32_280 : BitVec 32 := 1#32
  let arg9 : BitVec 32 := Scf.iv c0_i32_278 c1_i32_280 k0_t7
  let c256_i32 : BitVec 32 := 256#32
  let v308 : BitVec 32 := Scalar.muli arg9 c256_i32
  let v312 : Index := Scalar.indexCast v308
  let c0_383 : Index := 0#32
  ![v312.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 512)⁻¹ : ℝ) : EReal)
  | _ => none
-- ==== ReferenceIdeal.lean ====
abbrev S16384x512 : Shape := ⟨2, ![16384, 512]⟩
abbrev S512x16384 : Shape := ⟨2, ![512, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S512x16384, .f32⟩
  | .hbm, ⟨7, _⟩ => ⟨S16384x16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S16384x16384, .f32⟩
  | .hbm, ⟨23, _⟩ => ⟨S16384x16384, .f32⟩
  | .hbm, ⟨24, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.KernelIdeal.Protocol.lean ====
/-
# `KernelIdeal`: the ring's protocol

Four devices in a ring. Each signals both neighbours' barrier semaphore and waits for two units on its own; then it
sends its keys and values in halves to both neighbours (transfers 0 to 7) and forwards half of what each neighbour sent
to the other one (transfers 8 to 11), so that every device ends with the keys and values of all four.

Transfer `i` of device `c` reads `srcM i` of `c`, writes `dstM i` of the device `tgt i c`, and completes on the two
semaphores `sendSem i` (at `c`) and `recvSem i` (at `tgt i c`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_nxt_nxt (c : Dev nD) : nxt (nxt (nxt c)) = prv c := by revert c; decide
theorem nxt_nxt_prv (c : Dev nD) : nxt (nxt (prv c)) = nxt c := by revert c; decide
theorem prv_prv (c : Dev nD) : prv (prv c) = nxt (nxt c) := by revert c; decide

def ring : Dev nD ≃ Dev nD := ⟨nxt, prv, prv_nxt, nxt_prv⟩

/-! ## The memrefs -/

abbrev qM : Memref sig .tc .vmem S4096x512 .bf16 := Memref.whole cc0_stg0_0
abbrev kM : Memref sig .tc .vmem S4096x512 .bf16 := Memref.whole cc0_stg1_0
abbrev vM : Memref sig .tc .vmem S4096x512 .bf16 := Memref.whole cc0_stg2_0
abbrev oM : Memref sig .tc .vmem S4096x512 .f32 := Memref.whole cc0_stg3_0
abbrev ckM : Memref sig .tc .vmem S3x4096x512 .bf16 := Memref.whole cc0_scratch0
abbrev cvM : Memref sig .tc .vmem S3x4096x512 .bf16 := Memref.whole cc0_scratch1
abbrev lM : Memref sig .tc .vmem S4096x1 .f32 := Memref.whole cc0_scratch2

/-- The upper and the lower half of a block of rows. -/
abbrev lo (M : Memref sig .tc .vmem S4096x512 .bf16) : Memref sig .tc .vmem S2048x512 .bf16 :=
  M.slice (Rect.unit (s := S4096x512) ![0, 0] S2048x512.size inb_S4096x512_S2048x512_0_0) (fun _ => rfl)
abbrev hi (M : Memref sig .tc .vmem S4096x512 .bf16) : Memref sig .tc .vmem S2048x512 .bf16 :=
  M.slice (Rect.unit (s := S4096x512) ![2048, 0] S2048x512.size inb_S4096x512_S2048x512_2048_0) (fun _ => rfl)
/-- The half slots of a landing buffer: slot 0, 1 or 2, the upper (`a`) or the lower (`b`) half of its rows. -/
abbrev s0a (M : Memref sig .tc .vmem S3x4096x512 .bf16) : Memref sig .tc .vmem S2048x512 .bf16 :=
  (M.slice (Rect.unit (s := S3x4096x512) ![0, 0, 0] S1x2048x512.size inb_S3x4096x512_S1x2048x512_0_0_0) (fun _ => rfl)).squeeze S2048x512 squeezes_S1x2048x512_S2048x512
abbrev s0b (M : Memref sig .tc .vmem S3x4096x512 .bf16) : Memref sig .tc .vmem S2048x512 .bf16 :=
  (M.slice (Rect.unit (s := S3x4096x512) ![0, 2048, 0] S1x2048x512.size inb_S3x4096x512_S1x2048x512_0_2048_0) (fun _ => rfl)).squeeze S2048x512 squeezes_S1x2048x512_S2048x512
abbrev s1a (M : Memref sig .tc .vmem S3x4096x512 .bf16) : Memref sig .tc .vmem S2048x512 .bf16 :=
  (M.slice (Rect.unit (s := S3x4096x512) ![1, 0, 0] S1x2048x512.size inb_S3x4096x512_S1x2048x512_1_0_0) (fun _ => rfl)).squeeze S2048x512 squeezes_S1x2048x512_S2048x512
abbrev s1b (M : Memref sig .tc .vmem S3x4096x512 .bf16) : Memref sig .tc .vmem S2048x512 .bf16 :=
  (M.slice (Rect.unit (s := S3x4096x512) ![1, 2048, 0] S1x2048x512.size inb_S3x4096x512_S1x2048x512_1_2048_0) (fun _ => rfl)).squeeze S2048x512 squeezes_S1x2048x512_S2048x512
abbrev s2a (M : Memref sig .tc .vmem S3x4096x512 .bf16) : Memref sig .tc .vmem S2048x512 .bf16 :=
  (M.slice (Rect.unit (s := S3x4096x512) ![2, 0, 0] S1x2048x512.size inb_S3x4096x512_S1x2048x512_2_0_0) (fun _ => rfl)).squeeze S2048x512 squeezes_S1x2048x512_S2048x512
abbrev s2b (M : Memref sig .tc .vmem S3x4096x512 .bf16) : Memref sig .tc .vmem S2048x512 .bf16 :=
  (M.slice (Rect.unit (s := S3x4096x512) ![2, 2048, 0] S1x2048x512.size inb_S3x4096x512_S1x2048x512_2_2048_0) (fun _ => rfl)).squeeze S2048x512 squeezes_S1x2048x512_S2048x512

/-- What transfer `i` reads, on the sending device, -/
def srcM : Fin 12 → Memref sig .tc .vmem S2048x512 .bf16
  | 0 => lo kM | 1 => lo vM | 2 => hi kM | 3 => hi vM
  | 4 => hi kM | 5 => hi vM | 6 => lo kM | 7 => lo vM
  | 8 => s0a ckM | 9 => s0a cvM | 10 => s1b ckM | 11 => s1b cvM
/-- and what it writes, on the receiving one. -/
def dstM : Fin 12 → Memref sig .tc .vmem S2048x512 .bf16
  | 0 => s0a ckM | 1 => s0a cvM | 2 => s0b ckM | 3 => s0b cvM
  | 4 => s1b ckM | 5 => s1b cvM | 6 => s1a ckM | 7 => s1a cvM
  | 8 => s2a ckM | 9 => s2a cvM | 10 => s2b ckM | 11 => s2b cvM

/-- Whether transfer `i` goes to the next device (else to the one before). -/
def isR : Fin 12 → Bool
  | 0 => true | 1 => true | 2 => true | 3 => true | 8 => true | 9 => true | _ => false
/-- The device transfer `i` of `c` goes to, and the one whose transfer `i` comes to `c`. -/
def tgt (i : Fin 12) (c : Dev nD) : Dev nD := bif isR i then nxt c else prv c
def org (i : Fin 12) (c : Dev nD) : Dev nD := bif isR i then prv c else nxt c
theorem org_tgt (i : Fin 12) (c : Dev nD) : org i (tgt i c) = c := by revert i c; decide
theorem tgt_org (i : Fin 12) (c : Dev nD) : tgt i (org i c) = c := by revert i c; decide

/-! ## The cells -/

/-- The runtime's barrier semaphore, -/
abbrev barS : Sem sig := (SemArray.scalar (sig.barrier 0 rfl) : Sems sig S_).sem
/-- the transfers' send semaphores -/
def sendSem : Fin 12 → DmaSem sig
  | 0 => ((cc0_scratch3.slice (Rect.unit (s := S12) ![0] S1.size inb_S12_S1_0)).squeeze S_ squeezes_S1_S_).sem
  | 1 => ((cc0_scratch3.slice (Rect.unit (s := S12) ![1] S1.size inb_S12_S1_1)).squeeze S_ squeezes_S1_S_).sem
  | 2 => ((cc0_scratch3.slice (Rect.unit (s := S12) ![2] S1.size inb_S12_S1_2)).squeeze S_ squeezes_S1_S_).sem
  | 3 => ((cc0_scratch3.slice (Rect.unit (s := S12) ![3] S1.size inb_S12_S1_3)).squeeze S_ squeezes_S1_S_).sem
  | 4 => ((cc0_scratch3.slice (Rect.unit (s := S12) ![4] S1.size inb_S12_S1_4)).squeeze S_ squeezes_S1_S_).sem
  | 5 => ((cc0_scratch3.slice (Rect.unit (s := S12) ![5] S1.size inb_S12_S1_5)).squeeze S_ squeezes_S1_S_).sem
  | 6 => ((cc0_scratch3.slice (Rect.unit (s := S12) ![6] S1.size inb_S12_S1_6)).squeeze S_ squeezes_S1_S_).sem
  | 7 => ((cc0_scratch3.slice (Rect.unit (s := S12) ![7] S1.size inb_S12_S1_7)).squeeze S_ squeezes_S1_S_).sem
  | 8 => ((cc0_scratch3.slice (Rect.unit (s := S12) ![8] S1.size inb_S12_S1_8)).squeeze S_ squeezes_S1_S_).sem
  | 9 => ((cc0_scratch3.slice (Rect.unit (s := S12) ![9] S1.size inb_S12_S1_9)).squeeze S_ squeezes_S1_S_).sem
  | 10 => ((cc0_scratch3.slice (Rect.unit (s := S12) ![10] S1.size inb_S12_S1_10)).squeeze S_ squeezes_S1_S_).sem
  | 11 => ((cc0_scratch3.slice (Rect.unit (s := S12) ![11] S1.size inb_S12_S1_11)).squeeze S_ squeezes_S1_S_).sem
/-- and their receive semaphores. -/
def recvSem : Fin 12 → DmaSem sig
  | 0 => ((cc0_scratch4.slice (Rect.unit (s := S12) ![0] S1.size inb_S12_S1_0)).squeeze S_ squeezes_S1_S_).sem
  | 1 => ((cc0_scratch4.slice (Rect.unit (s := S12) ![1] S1.size inb_S12_S1_1)).squeeze S_ squeezes_S1_S_).sem
  | 2 => ((cc0_scratch4.slice (Rect.unit (s := S12) ![2] S1.size inb_S12_S1_2)).squeeze S_ squeezes_S1_S_).sem
  | 3 => ((cc0_scratch4.slice (Rect.unit (s := S12) ![3] S1.size inb_S12_S1_3)).squeeze S_ squeezes_S1_S_).sem
  | 4 => ((cc0_scratch4.slice (Rect.unit (s := S12) ![4] S1.size inb_S12_S1_4)).squeeze S_ squeezes_S1_S_).sem
  | 5 => ((cc0_scratch4.slice (Rect.unit (s := S12) ![5] S1.size inb_S12_S1_5)).squeeze S_ squeezes_S1_S_).sem
  | 6 => ((cc0_scratch4.slice (Rect.unit (s := S12) ![6] S1.size inb_S12_S1_6)).squeeze S_ squeezes_S1_S_).sem
  | 7 => ((cc0_scratch4.slice (Rect.unit (s := S12) ![7] S1.size inb_S12_S1_7)).squeeze S_ squeezes_S1_S_).sem
  | 8 => ((cc0_scratch4.slice (Rect.unit (s := S12) ![8] S1.size inb_S12_S1_8)).squeeze S_ squeezes_S1_S_).sem
  | 9 => ((cc0_scratch4.slice (Rect.unit (s := S12) ![9] S1.size inb_S12_S1_9)).squeeze S_ squeezes_S1_S_).sem
  | 10 => ((cc0_scratch4.slice (Rect.unit (s := S12) ![10] S1.size inb_S12_S1_10)).squeeze S_ squeezes_S1_S_).sem
  | 11 => ((cc0_scratch4.slice (Rect.unit (s := S12) ![11] S1.size inb_S12_S1_11)).squeeze S_ squeezes_S1_S_).sem

abbrev barCell (c : Dev nD) : GSem nD τ sig := ((c : Thread nD τ), .reg barS)
abbrev sendCell (i : Fin 12) (c : Dev nD) : GSem nD τ sig := ((c : Thread nD τ), .dma (sendSem i))
abbrev recvCell (i : Fin 12) (c : Dev nD) : GSem nD τ sig := ((c : Thread nD τ), .dma (recvSem i))

/-- Which transfer's send semaphore this is, if any; which one's receive semaphore. -/
def sendIdx (s : SemLoc sig) : Option (Fin 12) := (List.finRange 12).find? fun i => decide (s = .dma (sendSem i))
def recvIdx (s : SemLoc sig) : Option (Fin 12) := (List.finRange 12).find? fun i => decide (s = .dma (recvSem i))

theorem sendIdx_send (i : Fin 12) : sendIdx (.dma (sendSem i)) = some i := by revert i; decide
theorem recvIdx_recv (i : Fin 12) : recvIdx (.dma (recvSem i)) = some i := by revert i; decide
theorem recvIdx_send (i : Fin 12) : recvIdx (.dma (sendSem i)) = none := by revert i; decide
theorem sendIdx_recv (i : Fin 12) : sendIdx (.dma (recvSem i)) = none := by revert i; decide
theorem recvIdx_bar : recvIdx (.reg barS) = none := by decide

/-- The credit of one transfer: the same for all. -/
abbrev N : ℕ := (dstM 0).view.dmaCredit
theorem N_pos : 0 < N := View.dmaCredit_pos _ (by decide)
theorem credit_dst (i : Fin 12) : (dstM i).view.dmaCredit = N := by fin_cases i <;> rfl
theorem credit_src (i : Fin 12) : (srcM i).view.dmaCredit = N := by fin_cases i <;> rfl

end Cert.KernelIdealProof

end
-- ==== Proof.KernelIdeal.Contents.lean ====
/-
# `KernelIdeal`: what the transfers carry
-/
module

public import proofs.«01_k».proof.Proof.KernelIdeal.Protocol

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the staging buffers and the landing buffers hold -/

/-- Device `c`'s block of queries, of keys, of values. -/
def qst (c : Dev nD) : (cc0_stg0_0 : Ref sig .tc).ty.Contents (Elt F) :=
  (win0_0.blk (0 : Fin 1)).view.read (Elt F) ((s₀ m ρ).mem ((c : Thread nD τ).loc main_arg0))
def kst (c : Dev nD) : (cc0_stg1_0 : Ref sig .tc).ty.Contents (Elt F) :=
  (win0_1.blk (0 : Fin 1)).view.read (Elt F) ((s₀ m ρ).mem ((c : Thread nD τ).loc main_arg1))
def vst (c : Dev nD) : (cc0_stg2_0 : Ref sig .tc).ty.Contents (Elt F) :=
  (win0_2.blk (0 : Fin 1)).view.read (Elt F) ((s₀ m ρ).mem ((c : Thread nD τ).loc main_arg2))

/-- Whose block slot `s` of a landing buffer of device `c` receives. -/
def peer (s : Fin 3) (c : Dev nD) : Dev nD := match s with | 0 => prv c | 1 => nxt c | 2 => nxt (nxt c)

/-- The keys' landing buffer once all has landed, and the values'. -/
def CK (c : Dev nD) : (cc0_scratch0 : Ref sig .tc).ty.Contents (Elt F) :=
  fun j => kst m ρ (peer (j 0) c) (ix2 (j 1 : Fin 4096) (j 2 : Fin 512))
def CV (c : Dev nD) : (cc0_scratch1 : Ref sig .tc).ty.Contents (Elt F) :=
  fun j => vst m ρ (peer (j 0) c) (ix2 (j 1 : Fin 4096) (j 2 : Fin 512))

/-- The whole contents of the buffer transfer `i` reads on `c`, of the buffer it writes on `c`. -/
def srcF : (i : Fin 12) → (c : Dev nD) → Buf (Elt F) ((srcM i).view.loc (c : Thread nD τ))
  | 0, c => kst m ρ c | 1, c => vst m ρ c | 2, c => kst m ρ c | 3, c => vst m ρ c
  | 4, c => kst m ρ c | 5, c => vst m ρ c | 6, c => kst m ρ c | 7, c => vst m ρ c
  | 8, c => CK m ρ c | 9, c => CV m ρ c | 10, c => CK m ρ c | 11, c => CV m ρ c
def dstF : (i : Fin 12) → (c : Dev nD) → Buf (Elt F) ((dstM i).view.loc (c : Thread nD τ))
  | 0, c => CK m ρ c | 1, c => CV m ρ c | 2, c => CK m ρ c | 3, c => CV m ρ c
  | 4, c => CK m ρ c | 5, c => CV m ρ c | 6, c => CK m ρ c | 7, c => CV m ρ c
  | 8, c => CK m ρ c | 9, c => CV m ρ c | 10, c => CK m ρ c | 11, c => CV m ρ c

/-! ## Where a half's index lies -/

theorem unit_emb {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = off a + (j a : Nat); rw [Nat.one_mul]

theorem half_emb (o : ℕ) (inb) (x : S2048x512.Idx) :
    (Rect.unit (s := S4096x512) ![o, 0] S2048x512.size inb).emb x
      = ix2 (⟨o + (x 0).val, by have := inb 0; have h := (x 0).isLt; change o + 2048 ≤ 4096 at this; change (x 0).val < 2048 at h; omega⟩ : Fin 4096) (x 1 : Fin 512) := by
  funext a
  apply Fin.ext
  rw [unit_emb]
  fin_cases a
  · rfl
  · show 0 + (x 1).val = (x 1).val; omega

theorem slot_emb (s o : ℕ) (hs : s < 3) (inb) (h : S2048x512.numel = S1x2048x512.numel) (x : S2048x512.Idx) :
    (Rect.unit (s := S3x4096x512) ![s, o, 0] S1x2048x512.size inb).emb (Shape.reshapeEquiv h x)
      = ix3 (⟨s, hs⟩ : Fin 3) (⟨o + (x 0).val, by have := inb 1; have h := (x 0).isLt; change o + 2048 ≤ 4096 at this; change (x 0).val < 2048 at h; omega⟩ : Fin 4096) (x 1 : Fin 512) := by
  have e : Shape.reshapeEquiv h x = ix3 (⟨0, Nat.one_pos⟩ : Fin 1) (x 0 : Fin 2048) (x 1 : Fin 512) := by
    rw [eq_ix2 x]; exact reshapeEquiv_ix2_1ab h _ _
  rw [e]
  funext a
  apply Fin.ext
  refine (unit_emb _ _ _ _ a).trans ?_
  fin_cases a
  · rfl
  · rfl
  · show 0 + (x 1).val = (x 1).val; omega

theorem carry_in {α : Type} (f : S4096x512.Idx → α) (g : S3x4096x512.Idx → α) (s o : ℕ) (hs : s < 3) (inb) (inb') (h : S2048x512.numel = S1x2048x512.numel)
    (H : ∀ (a : Fin 4096) (b : Fin 512), f (ix2 a b) = g (ix3 (⟨s, hs⟩ : Fin 3) a b)) (x : S2048x512.Idx) :
    f ((Rect.unit (s := S4096x512) ![o, 0] S2048x512.size inb).emb x)
      = g ((Rect.unit (s := S3x4096x512) ![s, o, 0] S1x2048x512.size inb').emb (Shape.reshapeEquiv h x)) := by
  rw [half_emb, slot_emb s o hs]; exact H _ _

theorem carry_on {α : Type} (f g : S3x4096x512.Idx → α) (s s' o : ℕ) (hs : s < 3) (hs' : s' < 3) (inb) (inb') (h : S2048x512.numel = S1x2048x512.numel)
    (H : ∀ (a : Fin 4096) (b : Fin 512), f (ix3 (⟨s, hs⟩ : Fin 3) a b) = g (ix3 (⟨s', hs'⟩ : Fin 3) a b)) (x : S2048x512.Idx) :
    f ((Rect.unit (s := S3x4096x512) ![s, o, 0] S1x2048x512.size inb).emb (Shape.reshapeEquiv h x))
      = g ((Rect.unit (s := S3x4096x512) ![s', o, 0] S1x2048x512.size inb').emb (Shape.reshapeEquiv h x)) := by
  rw [slot_emb s o hs, slot_emb s' o hs']; exact H _ _

/-- What transfer `i` of `c` reads is what it leaves on the device it goes to. -/
theorem carried (i : Fin 12) (c : Dev nD) :
    (srcM i).view.read (Elt F) (srcF m ρ i c) = (dstM i).view.read (Elt F) (dstF m ρ i (tgt i c)) := by
  have P0 : ∀ c, peer 0 (nxt c) = c := prv_nxt
  have P1 : ∀ c, peer 1 (prv c) = c := nxt_prv
  have P2 : ∀ c, peer 2 (nxt c) = peer 0 c := nxt_nxt_nxt
  have P3 : ∀ c, peer 2 (prv c) = peer 1 c := nxt_nxt_prv
  fin_cases i <;> funext x
  · exact carry_in (kst m ρ c) (CK m ρ (nxt c)) 0 0 (by decide) inb_S4096x512_S2048x512_0_0 inb_S3x4096x512_S1x2048x512_0_0_0 _ (fun a b => by show _ = kst m ρ (peer 0 (nxt c)) _; rw [P0]; rfl) x
  · exact carry_in (vst m ρ c) (CV m ρ (nxt c)) 0 0 (by decide) inb_S4096x512_S2048x512_0_0 inb_S3x4096x512_S1x2048x512_0_0_0 _ (fun a b => by show _ = vst m ρ (peer 0 (nxt c)) _; rw [P0]; rfl) x
  · exact carry_in (kst m ρ c) (CK m ρ (nxt c)) 0 2048 (by decide) inb_S4096x512_S2048x512_2048_0 inb_S3x4096x512_S1x2048x512_0_2048_0 _ (fun a b => by show _ = kst m ρ (peer 0 (nxt c)) _; rw [P0]; rfl) x
  · exact carry_in (vst m ρ c) (CV m ρ (nxt c)) 0 2048 (by decide) inb_S4096x512_S2048x512_2048_0 inb_S3x4096x512_S1x2048x512_0_2048_0 _ (fun a b => by show _ = vst m ρ (peer 0 (nxt c)) _; rw [P0]; rfl) x
  · exact carry_in (kst m ρ c) (CK m ρ (prv c)) 1 2048 (by decide) inb_S4096x512_S2048x512_2048_0 inb_S3x4096x512_S1x2048x512_1_2048_0 _ (fun a b => by show _ = kst m ρ (peer 1 (prv c)) _; rw [P1]; rfl) x
  · exact carry_in (vst m ρ c) (CV m ρ (prv c)) 1 2048 (by decide) inb_S4096x512_S2048x512_2048_0 inb_S3x4096x512_S1x2048x512_1_2048_0 _ (fun a b => by show _ = vst m ρ (peer 1 (prv c)) _; rw [P1]; rfl) x
  · exact carry_in (kst m ρ c) (CK m ρ (prv c)) 1 0 (by decide) inb_S4096x512_S2048x512_0_0 inb_S3x4096x512_S1x2048x512_1_0_0 _ (fun a b => by show _ = kst m ρ (peer 1 (prv c)) _; rw [P1]; rfl) x
  · exact carry_in (vst m ρ c) (CV m ρ (prv c)) 1 0 (by decide) inb_S4096x512_S2048x512_0_0 inb_S3x4096x512_S1x2048x512_1_0_0 _ (fun a b => by show _ = vst m ρ (peer 1 (prv c)) _; rw [P1]; rfl) x
  · exact carry_on (CK m ρ c) (CK m ρ (nxt c)) 0 2 0 (by decide) (by decide) inb_S3x4096x512_S1x2048x512_0_0_0 inb_S3x4096x512_S1x2048x512_2_0_0 _ (fun a b => by show kst m ρ (peer 0 c) _ = kst m ρ (peer 2 (nxt c)) _; rw [P2]; rfl) x
  · exact carry_on (CV m ρ c) (CV m ρ (nxt c)) 0 2 0 (by decide) (by decide) inb_S3x4096x512_S1x2048x512_0_0_0 inb_S3x4096x512_S1x2048x512_2_0_0 _ (fun a b => by show vst m ρ (peer 0 c) _ = vst m ρ (peer 2 (nxt c)) _; rw [P2]; rfl) x
  · exact carry_on (CK m ρ c) (CK m ρ (prv c)) 1 2 2048 (by decide) (by decide) inb_S3x4096x512_S1x2048x512_1_2048_0 inb_S3x4096x512_S1x2048x512_2_2048_0 _ (fun a b => by show kst m ρ (peer 1 c) _ = kst m ρ (peer 2 (prv c)) _; rw [P3]; rfl) x
  · exact carry_on (CV m ρ c) (CV m ρ (prv c)) 1 2 2048 (by decide) (by decide) inb_S3x4096x512_S1x2048x512_1_2048_0 inb_S3x4096x512_S1x2048x512_2_2048_0 _ (fun a b => by show vst m ρ (peer 1 c) _ = vst m ρ (peer 2 (prv c)) _; rw [P3]; rfl) x

/-- So the elements transfer `i` rewrites on the device it goes to hold that device's final contents. -/
theorem write_carried (i : Fin 12) (c : Dev nD) (fd : Buf (Elt F) ((dstM i).view.loc (tgt i c : Thread nD τ))) :
    ∀ j ∈ (dstM i).view.set, (dstM i).view.write (Elt F) fd ((srcM i).view.read (Elt F) (srcF m ρ i c)) Finset.univ j = dstF m ρ i (tgt i c) j := by
  intro j hj
  rw [carried, View.write_read_eq_piecewise]
  exact Finset.piecewise_eq_of_mem _ _ _ (by rw [View.setOn_univ]; exact hj)

/-! ## The pieces of a buffer -/

/-- The share of its source transfer `i` holds while in flight. The left half of the full share stays for loading; the
    right half goes to the forwarding transfers 8 to 11, and is itself halved between the two directions of 0 to 7. -/
def sh : Fin 12 → PosShare TreeShare
  | 0 => fullShare.right.left | 1 => fullShare.right.left | 2 => fullShare.right.left | 3 => fullShare.right.left
  | 4 => fullShare.right.right | 5 => fullShare.right.right | 6 => fullShare.right.right | 7 => fullShare.right.right
  | 8 => fullShare.right | 9 => fullShare.right | 10 => fullShare.right | 11 => fullShare.right

/-- Transfer `i`'s source elements on `c` at the transfer's share, its destination elements on `c` landed, and the latter at any contents. -/
def srcP (i : Fin 12) (c : Dev nD) : sProp 𝕄 := (srcM i).view.loc (c : Thread nD τ) ↦[(srcM i).view.set]{sh i} srcF m ρ i c
def dstP (q : PosShare TreeShare) (i : Fin 12) (c : Dev nD) : sProp 𝕄 := (dstM i).view.loc (c : Thread nD τ) ↦[(dstM i).view.set]{q} dstF m ρ i c
def dstAny (i : Fin 12) (c : Dev nD) : sProp 𝕄 := iprop(∃ f, (dstM i).view.loc (c : Thread nD τ) ↦[(dstM i).view.set]{fullShare} f)

instance srcP_storable (i : Fin 12) (c : Dev nD) : BI.Storable (upEmb : UEmb _ 𝕄) (srcP (F := F) m ρ i c) := by unfold srcP; infer_instance
instance dstP_storable (q) (i : Fin 12) (c : Dev nD) : BI.Storable (upEmb : UEmb _ 𝕄) (dstP (F := F) m ρ q i c) := by unfold dstP; infer_instance
instance dstAny_storable (i : Fin 12) (c : Dev nD) : BI.Storable (upEmb : UEmb _ 𝕄) (dstAny (F := F) i c) := by unfold dstAny; infer_instance

theorem share_split {ℓ : Loc nD τ sig} {I : Finset (Idx ℓ)} {f : Buf (Elt F) ℓ} (q : PosShare TreeShare) :
    (ℓ ↦[I]{q} f : sProp 𝕄) = iprop((ℓ ↦[I]{q.left} f) ∗ ℓ ↦[I]{q.right} f) :=
  have h := pointsTo_share (ℓ := ℓ) (I := I) (f := f) (PosShare.mem_left_op_right q); BI.equiv_iff.mp ⟨h.1, h.2⟩

/-! ## Taking the buffers apart -/

/-- The six pieces of a landing buffer, in the order of the transfers that write them. -/
def piece (M : Memref sig .tc .vmem S3x4096x512 .bf16) (i : Fin 6) : Finset M.view.ty.shape.Idx := match i with
  | 0 => (s0a M).view.set | 1 => (s0b M).view.set | 2 => (s1b M).view.set | 3 => (s1a M).view.set | 4 => (s2a M).view.set | 5 => (s2b M).view.set

def pSlot : Fin 6 → ℕ
  | 0 => 0 | 1 => 0 | 2 => 1 | 3 => 1 | 4 => 2 | 5 => 2
def pRow : Fin 6 → ℕ
  | 0 => 0 | 1 => 2048 | 2 => 2048 | 3 => 0 | 4 => 0 | 5 => 2048

theorem mem_slot (s o : ℕ) (inb) (j : S3x4096x512.Idx) :
    j ∈ (Rect.unit (s := S3x4096x512) ![s, o, 0] S1x2048x512.size inb).set ↔ (j 0).val = s ∧ o ≤ (j 1).val ∧ (j 1).val < o + 2048 := by
  rw [Rect.mem_set_unit]
  constructor
  · intro h
    have h0 := h 0; have h1 := h 1
    change s ≤ (j 0).val ∧ (j 0).val < s + 1 at h0
    change o ≤ (j 1).val ∧ (j 1).val < o + 2048 at h1
    omega
  · rintro ⟨h0, h1, h2⟩ a
    have h3 : (j 2).val < 512 := (j 2).isLt
    fin_cases a
    · show s ≤ (j 0).val ∧ (j 0).val < s + 1; omega
    · exact ⟨h1, h2⟩
    · show 0 ≤ (j 2).val ∧ (j 2).val < 0 + 512; omega

theorem mem_piece_k (i : Fin 6) (j : S3x4096x512.Idx) : j ∈ piece ckM i ↔ (j 0).val = pSlot i ∧ pRow i ≤ (j 1).val ∧ (j 1).val < pRow i + 2048 := by
  have e : ∀ (s o : ℕ) (inb), ((ckM.slice (Rect.unit (s := S3x4096x512) ![s, o, 0] S1x2048x512.size inb) (fun _ => rfl)).squeeze S2048x512 squeezes_S1x2048x512_S2048x512).view.set
      = (Rect.unit (s := S3x4096x512) ![s, o, 0] S1x2048x512.size inb).set := fun s o inb => by
    rw [Memref.set_view_squeeze]; exact View.set_slice_whole cc0_scratch0 _
  fin_cases i <;> exact (iff_of_eq (congrArg (j ∈ ·) (e _ _ _))).trans (mem_slot _ _ _ j)

theorem mem_piece_v (i : Fin 6) (j : S3x4096x512.Idx) : j ∈ piece cvM i ↔ (j 0).val = pSlot i ∧ pRow i ≤ (j 1).val ∧ (j 1).val < pRow i + 2048 := by
  have e : ∀ (s o : ℕ) (inb), ((cvM.slice (Rect.unit (s := S3x4096x512) ![s, o, 0] S1x2048x512.size inb) (fun _ => rfl)).squeeze S2048x512 squeezes_S1x2048x512_S2048x512).view.set
      = (Rect.unit (s := S3x4096x512) ![s, o, 0] S1x2048x512.size inb).set := fun s o inb => by
    rw [Memref.set_view_squeeze]; exact View.set_slice_whole cc0_scratch1 _
  fin_cases i <;> exact (iff_of_eq (congrArg (j ∈ ·) (e _ _ _))).trans (mem_slot _ _ _ j)

theorem pieces_apart (j : S3x4096x512.Idx) (i i' : Fin 6) (h : (j 0).val = pSlot i ∧ pRow i ≤ (j 1).val ∧ (j 1).val < pRow i + 2048)
    (h' : (j 0).val = pSlot i' ∧ pRow i' ≤ (j 1).val ∧ (j 1).val < pRow i' + 2048) : i = i' := by
  fin_cases i <;> fin_cases i' <;> first | rfl | (exfalso; simp only [pSlot, pRow] at h h'; omega)

theorem pieces_all (j : S3x4096x512.Idx) : ∃ i : Fin 6, (j 0).val = pSlot i ∧ pRow i ≤ (j 1).val ∧ (j 1).val < pRow i + 2048 := by
  have h0 : (j 0).val < 3 := (j 0).isLt
  have h1 : (j 1).val < 4096 := (j 1).isLt
  by_cases hr : (j 1).val < 2048
  · rcases (by omega : (j 0).val = 0 ∨ (j 0).val = 1 ∨ (j 0).val = 2) with h | h | h
    · exact ⟨0, by simp only [pSlot, pRow]; omega⟩
    · exact ⟨3, by simp only [pSlot, pRow]; omega⟩
    · exact ⟨4, by simp only [pSlot, pRow]; omega⟩
  · rcases (by omega : (j 0).val = 0 ∨ (j 0).val = 1 ∨ (j 0).val = 2) with h | h | h
    · exact ⟨1, by simp only [pSlot, pRow]; omega⟩
    · exact ⟨2, by simp only [pSlot, pRow]; omega⟩
    · exact ⟨5, by simp only [pSlot, pRow]; omega⟩

/-- A landing buffer is its six pieces. -/
theorem split_k (c : Dev nD) (f : Buf (Elt F) ((c : Thread nD τ).loc cc0_scratch0)) :
    (((c : Thread nD τ).loc cc0_scratch0) ↦{fullShare} f : sProp 𝕄)
      = bigSep Finset.univ fun i : Fin 6 => ((c : Thread nD τ).loc cc0_scratch0) ↦[piece ckM i]{fullShare} f := by
  refine (congrArg (fun S => (((c : Thread nD τ).loc cc0_scratch0) ↦[S]{fullShare} f : sProp 𝕄)) ?_).trans
    (pointsTo_biUnion (ℓ := (c : Thread nD τ).loc cc0_scratch0) Finset.univ (piece ckM)
      (fun i _ i' _ hne => Finset.disjoint_left.mpr fun j hj hj' => hne (pieces_apart j i i' ((mem_piece_k i j).mp hj) ((mem_piece_k i' j).mp hj'))))
  symm
  refine Finset.eq_univ_iff_forall.mpr fun j => ?_
  obtain ⟨i, hi⟩ := pieces_all j
  exact Finset.mem_biUnion.mpr ⟨i, Finset.mem_univ _, (mem_piece_k i j).mpr hi⟩

theorem split_v (c : Dev nD) (f : Buf (Elt F) ((c : Thread nD τ).loc cc0_scratch1)) :
    (((c : Thread nD τ).loc cc0_scratch1) ↦{fullShare} f : sProp 𝕄)
      = bigSep Finset.univ fun i : Fin 6 => ((c : Thread nD τ).loc cc0_scratch1) ↦[piece cvM i]{fullShare} f := by
  refine (congrArg (fun S => (((c : Thread nD τ).loc cc0_scratch1) ↦[S]{fullShare} f : sProp 𝕄)) ?_).trans
    (pointsTo_biUnion (ℓ := (c : Thread nD τ).loc cc0_scratch1) Finset.univ (piece cvM)
      (fun i _ i' _ hne => Finset.disjoint_left.mpr fun j hj hj' => hne (pieces_apart j i i' ((mem_piece_v i j).mp hj) ((mem_piece_v i' j).mp hj'))))
  symm
  refine Finset.eq_univ_iff_forall.mpr fun j => ?_
  obtain ⟨i, hi⟩ := pieces_all j
  exact Finset.mem_biUnion.mpr ⟨i, Finset.mem_univ _, (mem_piece_v i j).mpr hi⟩

theorem bigSep_six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; simp only [bigSepL_cons_cons, bigSepL_singleton]; rfl

/-- At the start: whatever the landing buffers hold, as what the six transfers into each will overwrite. -/
theorem open_k (c : Dev nD) (f : Buf (Elt F) ((c : Thread nD τ).loc cc0_scratch0)) :
    (((c : Thread nD τ).loc cc0_scratch0) ↦{fullShare} f : sProp 𝕄) ⊢ iprop(dstAny 0 c ∗ dstAny 2 c ∗ dstAny 4 c ∗ dstAny 6 c ∗ dstAny 8 c ∗ dstAny 10 c) := by
  rw [split_k, bigSep_six]
  unfold dstAny
  iintro ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

theorem open_v (c : Dev nD) (f : Buf (Elt F) ((c : Thread nD τ).loc cc0_scratch1)) :
    (((c : Thread nD τ).loc cc0_scratch1) ↦{fullShare} f : sProp 𝕄) ⊢ iprop(dstAny 1 c ∗ dstAny 3 c ∗ dstAny 5 c ∗ dstAny 7 c ∗ dstAny 9 c ∗ dstAny 11 c) := by
  rw [split_v, bigSep_six]
  unfold dstAny
  iintro ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

/-- At the end: the six pieces landed are the whole landing buffer. -/
theorem close_k (c : Dev nD) :
    iprop(dstP m ρ fullShare 0 c ∗ dstP m ρ fullShare 2 c ∗ dstP m ρ fullShare 4 c ∗ dstP m ρ fullShare 6 c ∗ dstP m ρ fullShare 8 c ∗ dstP m ρ fullShare 10 c)
      ⊢ (((c : Thread nD τ).loc cc0_scratch0) ↦{fullShare} CK m ρ c : sProp 𝕄) := by
  rw [split_k, bigSep_six]; exact Entails.refl _

theorem close_v (c : Dev nD) :
    iprop(dstP m ρ fullShare 1 c ∗ dstP m ρ fullShare 3 c ∗ dstP m ρ fullShare 5 c ∗ dstP m ρ fullShare 7 c ∗ dstP m ρ fullShare 9 c ∗ dstP m ρ fullShare 11 c)
      ⊢ (((c : Thread nD τ).loc cc0_scratch1) ↦{fullShare} CV m ρ c : sProp 𝕄) := by
  rw [split_v, bigSep_six]; exact Entails.refl _

/-! The halves of a staging buffer. -/

theorem mem_half (o : ℕ) (inb) (j : S4096x512.Idx) :
    j ∈ (Rect.unit (s := S4096x512) ![o, 0] S2048x512.size inb).set ↔ o ≤ (j 0).val ∧ (j 0).val < o + 2048 := by
  rw [Rect.mem_set_unit]
  constructor
  · intro h; exact h 0
  · rintro ⟨h0, h1⟩ a
    have h3 : (j 1).val < 512 := (j 1).isLt
    fin_cases a
    · exact ⟨h0, h1⟩
    · show 0 ≤ (j 1).val ∧ (j 1).val < 0 + 512; omega

theorem halves_apart (inb inb') : Disjoint (Rect.unit (s := S4096x512) ![0, 0] S2048x512.size inb).set (Rect.unit (s := S4096x512) ![2048, 0] S2048x512.size inb').set :=
  Finset.disjoint_left.mpr fun j h h' => by rw [mem_half] at h h'; omega
theorem halves_all (inb inb') : (Rect.unit (s := S4096x512) ![0, 0] S2048x512.size inb).set ∪ (Rect.unit (s := S4096x512) ![2048, 0] S2048x512.size inb').set = Finset.univ :=
  Finset.eq_univ_iff_forall.mpr fun j => by
    have h0 : (j 0).val < 4096 := (j 0).isLt
    rw [Finset.mem_union, mem_half, mem_half]; omega

theorem half_k (c : Dev nD) (q : PosShare TreeShare) (f : Buf (Elt F) ((c : Thread nD τ).loc cc0_stg1_0)) :
    (((c : Thread nD τ).loc cc0_stg1_0) ↦{q} f : sProp 𝕄)
      = iprop((((c : Thread nD τ).loc cc0_stg1_0) ↦[(lo kM).view.set]{q} f) ∗ ((c : Thread nD τ).loc cc0_stg1_0) ↦[(hi kM).view.set]{q} f) := by
  have e0 : (lo kM).view.set = _ := View.set_slice_whole cc0_stg1_0 _
  have e1 : (hi kM).view.set = _ := View.set_slice_whole cc0_stg1_0 _
  rw [e0, e1]
  have h := halves_apart inb_S4096x512_S2048x512_0_0 inb_S4096x512_S2048x512_2048_0
  exact (congrArg (fun S => (((c : Thread nD τ).loc cc0_stg1_0) ↦[S]{q} f : sProp 𝕄)) (halves_all _ _).symm).trans (BI.equiv_iff.mp ⟨(pointsTo_union h).1, (pointsTo_union h).2⟩)

theorem half_v (c : Dev nD) (q : PosShare TreeShare) (f : Buf (Elt F) ((c : Thread nD τ).loc cc0_stg2_0)) :
    (((c : Thread nD τ).loc cc0_stg2_0) ↦{q} f : sProp 𝕄)
      = iprop((((c : Thread nD τ).loc cc0_stg2_0) ↦[(lo vM).view.set]{q} f) ∗ ((c : Thread nD τ).loc cc0_stg2_0) ↦[(hi vM).view.set]{q} f) := by
  have e0 : (lo vM).view.set = _ := View.set_slice_whole cc0_stg2_0 _
  have e1 : (hi vM).view.set = _ := View.set_slice_whole cc0_stg2_0 _
  rw [e0, e1]
  have h := halves_apart inb_S4096x512_S2048x512_0_0 inb_S4096x512_S2048x512_2048_0
  exact (congrArg (fun S => (((c : Thread nD τ).loc cc0_stg2_0) ↦[S]{q} f : sProp 𝕄)) (halves_all _ _).symm).trans (BI.equiv_iff.mp ⟨(pointsTo_union h).1, (pointsTo_union h).2⟩)

/-- A staging buffer of keys: half the share for loading, the rest in the four transfers that read it. -/
theorem parts_k (c : Dev nD) :
    (((c : Thread nD τ).loc cc0_stg1_0) ↦{fullShare} kst m ρ c : sProp 𝕄)
      = iprop((((c : Thread nD τ).loc cc0_stg1_0) ↦{fullShare.left} kst m ρ c) ∗ (srcP m ρ 0 c ∗ srcP m ρ 2 c) ∗ (srcP m ρ 6 c ∗ srcP m ρ 4 c)) := by
  rw [share_split fullShare, share_split fullShare.right, half_k c fullShare.right.left, half_k c fullShare.right.right]
  rfl
theorem parts_v (c : Dev nD) :
    (((c : Thread nD τ).loc cc0_stg2_0) ↦{fullShare} vst m ρ c : sProp 𝕄)
      = iprop((((c : Thread nD τ).loc cc0_stg2_0) ↦{fullShare.left} vst m ρ c) ∗ (srcP m ρ 1 c ∗ srcP m ρ 3 c) ∗ (srcP m ρ 7 c ∗ srcP m ρ 5 c)) := by
  rw [share_split fullShare, share_split fullShare.right, half_v c fullShare.right.left, half_v c fullShare.right.right]
  rfl

/-- A landed piece to be forwarded: half the share for loading, half in the forwarding transfer. -/
theorem fwd_8 (c : Dev nD) : dstP m ρ fullShare 0 c = iprop(dstP m ρ fullShare.left 0 c ∗ srcP m ρ 8 c) := share_split fullShare
theorem fwd_9 (c : Dev nD) : dstP m ρ fullShare 1 c = iprop(dstP m ρ fullShare.left 1 c ∗ srcP m ρ 9 c) := share_split fullShare
theorem fwd_10 (c : Dev nD) : dstP m ρ fullShare 4 c = iprop(dstP m ρ fullShare.left 4 c ∗ srcP m ρ 10 c) := share_split fullShare
theorem fwd_11 (c : Dev nD) : dstP m ρ fullShare 5 c = iprop(dstP m ρ fullShare.left 5 c ∗ srcP m ρ 11 c) := share_split fullShare

end Cert.KernelIdealProof

end
-- ==== Proof.KernelIdeal.Schedule.lean ====
/-
# `KernelIdeal`: the schedule of the semaphores
-/
module

public import proofs.«01_k».proof.Proof.KernelIdeal.Contents

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The schedule

One round. A barrier cell has two duties of one unit: `true` paid by the next device, `false` by the one before. A send or
receive cell has the duty `false` of the transfer's credit. -/

/-- What the next device's signal hands `c`: that device's half slots which `c`'s transfers to it overwrite. -/
def barPayR (c : Dev nD) : sProp 𝕄 :=
  iprop(dstAny 0 (nxt c) ∗ dstAny 1 (nxt c) ∗ dstAny 2 (nxt c) ∗ dstAny 3 (nxt c) ∗ dstAny 8 (nxt c) ∗ dstAny 9 (nxt c))
/-- What the previous device's signal hands `c`. -/
def barPayL (c : Dev nD) : sProp 𝕄 :=
  iprop(dstAny 4 (prv c) ∗ dstAny 5 (prv c) ∗ dstAny 6 (prv c) ∗ dstAny 7 (prv c) ∗ dstAny 10 (prv c) ∗ dstAny 11 (prv c))

instance barPayR_storable (c : Dev nD) : BI.Storable (upEmb : UEmb _ 𝕄) (barPayR (F := F) c) := by unfold barPayR; infer_instance
instance barPayL_storable (c : Dev nD) : BI.Storable (upEmb : UEmb _ 𝕄) (barPayL (F := F) c) := by unfold barPayL; infer_instance

def xferPay (s : SemLoc sig) (c : Dev nD) : sProp 𝕄 :=
  match recvIdx s with
  | some i => dstP m ρ fullShare i c
  | none => match sendIdx s with
    | some i => srcP m ρ i c
    | none => iprop(emp)

instance xferPay_storable (s : SemLoc sig) (c : Dev nD) : BI.Storable (upEmb : UEmb _ 𝕄) (xferPay (F := F) m ρ s c) := by
  unfold xferPay; split
  · infer_instance
  · split <;> infer_instance

def ringRd : Rounds.Schedule (GSem nD τ sig) Bool 𝕄 where
  duties g r := if r = 0 ∧ g.1.2 = .tc then
      (if g.2 = .reg barS then Finset.univ else if (sendIdx g.2).isSome ∨ (recvIdx g.2).isSome then {false} else ∅) else ∅
  unitless _ := False
  amount g _ _ := if g.2 = .reg barS then 1 else N
  payload g _ d := if g.2 = .reg barS then (if d then barPayR g.1.1 else barPayL g.1.1) else xferPay m ρ g.2 g.1.1
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m ρ).payload g r d) := by
  show BI.Storable upEmb (if g.2 = .reg barS then (if d then barPayR g.1.1 else barPayL g.1.1) else xferPay m ρ g.2 g.1.1)
  (repeat' split) <;> infer_instance

theorem send_ne_bar (i : Fin 12) : (SemLoc.dma (sendSem i) : SemLoc sig) ≠ .reg barS := fun h => by cases h
theorem recv_ne_bar (i : Fin 12) : (SemLoc.dma (recvSem i) : SemLoc sig) ≠ .reg barS := fun h => by cases h

section Sched
variable (c : Dev nD) (i : Fin 12)

theorem duties_bar : (ringRd (F := F) m ρ).duties (barCell c) 0 = Finset.univ := by
  dsimp only [ringRd]; rw [if_pos ⟨rfl, rfl⟩]; exact if_pos rfl
theorem duties_send : (ringRd (F := F) m ρ).duties (sendCell i c) 0 = {false} := by
  dsimp only [ringRd]; rw [if_pos ⟨rfl, rfl⟩, if_neg (send_ne_bar i)]; exact if_pos (.inl (by rw [sendIdx_send]; rfl))
theorem duties_recv : (ringRd (F := F) m ρ).duties (recvCell i c) 0 = {false} := by
  dsimp only [ringRd]; rw [if_pos ⟨rfl, rfl⟩, if_neg (recv_ne_bar i)]; exact if_pos (.inr (by rw [recvIdx_recv]; rfl))
theorem duties_later (g : GSem nD τ sig) : ∀ r, 1 ≤ r → (ringRd (F := F) m ρ).duties g r = ∅ :=
  fun r hr => by dsimp only [ringRd]; exact if_neg fun h => by omega

theorem amount_bar (d : Bool) : (ringRd (F := F) m ρ).amount (barCell c) 0 d = 1 := by dsimp only [ringRd]; exact if_pos rfl
theorem amount_send (d : Bool) : (ringRd (F := F) m ρ).amount (sendCell i c) 0 d = N := by dsimp only [ringRd]; exact if_neg (send_ne_bar i)
theorem amount_recv (d : Bool) : (ringRd (F := F) m ρ).amount (recvCell i c) 0 d = N := by dsimp only [ringRd]; exact if_neg (recv_ne_bar i)

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (ringRd (F := F) m ρ).expect (sendCell i c) 0 = N := by
  unfold Schedule.expect Schedule.amountOf; rw [duties_send, Finset.sum_singleton, amount_send]
theorem expect_recv : (ringRd (F := F) m ρ).expect (recvCell i c) 0 = N := by
  unfold Schedule.expect Schedule.amountOf; rw [duties_recv, Finset.sum_singleton, amount_recv]

theorem payload_bar_true : (ringRd (F := F) m ρ).payload (barCell c) 0 true = barPayR c := by dsimp only [ringRd]; rw [if_pos rfl]; rfl
theorem payload_bar_false : (ringRd (F := F) m ρ).payload (barCell c) 0 false = barPayL c := by dsimp only [ringRd]; rw [if_pos rfl]; rfl
theorem payload_send (d : Bool) : (ringRd (F := F) m ρ).payload (sendCell i c) 0 d = srcP m ρ i c := by
  dsimp only [ringRd]; rw [if_neg (send_ne_bar i)]; unfold xferPay; rw [recvIdx_send, sendIdx_send]
theorem payload_recv (d : Bool) : (ringRd (F := F) m ρ).payload (recvCell i c) 0 d = dstP m ρ fullShare i c := by
  dsimp only [ringRd]; rw [if_neg (recv_ne_bar i)]; unfold xferPay; rw [recvIdx_recv]

theorem rest_bar : bigSep ((ringRd (F := F) m ρ).duties (barCell c) 0 \ ∅) (fun d => (ringRd (F := F) m ρ).payload (barCell c) 0 d)
    = iprop(barPayL c ∗ barPayR c) := by
  rw [Finset.sdiff_empty, duties_bar, bigSep_univ_eq_bigSepL [false, true] (by decide) (by decide), bigSepL_cons_cons, bigSepL_singleton,
    payload_bar_false, payload_bar_true]
  rfl
theorem rest_send : bigSep ((ringRd (F := F) m ρ).duties (sendCell i c) 0 \ ∅) (fun d => (ringRd (F := F) m ρ).payload (sendCell i c) 0 d) = srcP m ρ i c := by
  rw [Finset.sdiff_empty, duties_send, bigSep_singleton, payload_send]
theorem rest_recv : bigSep ((ringRd (F := F) m ρ).duties (recvCell i c) 0 \ ∅) (fun d => (ringRd (F := F) m ρ).payload (recvCell i c) 0 d) = dstP m ρ fullShare i c := by
  rw [Finset.sdiff_empty, duties_recv, bigSep_singleton, payload_recv]

end Sched

/-! ## What each device owes; the levels -/

/-- The credit device `c` still owes for the transfers in the list, in the order it starts them. -/
def oweL (c : Dev nD) : List (Fin 12) → CellTallies nD τ sig Unit
  | [] => 0
  | i :: l => oweL c l + tallyAt (recvCell i (tgt i c)) () N

/-- The order a device starts its transfers in. -/
def order : List (Fin 12) := [0, 4, 1, 5, 2, 6, 3, 7, 8, 9, 10, 11]

def O₁ (c : Dev nD) : CellTallies nD τ sig Unit := oweL c order + tallyAt (barCell (nxt c)) () 1
def O₀ (c : Dev nD) : CellTallies nD τ sig Unit := O₁ c + tallyAt (barCell (prv c)) () 1

def L (g : GSem nD τ sig) : Finset Unit := if g.1.2 = .tc then {()} else ∅
def rlev (i : Fin 12) : ℕ := if i.val < 8 then 2 else 3
/-- Barrier cells at 1, the receive cells of the first transfers at 2, of the forwarding ones at 3, everything else at 0. -/
def lv (g : GSem nD τ sig) (_ : Unit) : ℕ := if g.2 = .reg barS then 1 else match recvIdx g.2 with | some i => rlev i | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (i : Fin 12) (c : Dev nD) : lv (recvCell i c) () = rlev i := by unfold lv; rw [if_neg (recv_ne_bar i), recvIdx_recv]
theorem lv_other (c : Dev nD) (s : SemLoc sig) (h : s ≠ .reg barS) (h' : recvIdx s = none) : lv ((c : Thread nD τ), s) () = 0 := by
  unfold lv; rw [if_neg h]; simp only [h']

theorem oweL_pos {c : Dev nD} {l : List (Fin 12)} {g : GSem nD τ sig} {u : Unit} (h : 0 < oweL c l g u) : ∃ i ∈ l, g = recvCell i (tgt i c) := by
  induction l with
  | nil => exact absurd h (Nat.lt_irrefl 0)
  | cons i l ih =>
    unfold oweL at h
    rw [Pi.add_apply, Finsupp.add_apply, tallyAt_apply] at h
    by_cases hg : g = recvCell i (tgt i c) ∧ u = ()
    · exact ⟨i, List.mem_cons_self, hg.1⟩
    · rw [if_neg hg, Nat.add_zero] at h
      obtain ⟨j, hj, e⟩ := ih h
      exact ⟨j, List.mem_cons_of_mem _ hj, e⟩

theorem O₀_pos {c : Dev nD} {g : GSem nD τ sig} {u : Unit} (h : 0 < O₀ c g u) :
    (∃ i, g = recvCell i (tgt i c)) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨i, -, e⟩ := oweL_pos (c := c) (l := order) (g := g) (u := u) h
  exact hn.1 ⟨i, e⟩

theorem rlev_ge (i : Fin 12) : 2 ≤ rlev i := by revert i; decide

/-- A device may wait on a cell of level `b` while the transfers it still owes are all above it. -/
theorem mayWait_list (c : Dev nD) (s : SemLoc sig) (b : ℕ) (hb : lv ((c : Thread nD τ), s) () ≤ b) (l : List (Fin 12)) (hl : ∀ i ∈ l, b < rlev i) :
    (levAts L lv : sProp 𝕄) ⊢ MayWait (c : Thread nD τ) s () (oweL c l) :=
  MayOwe.of_cut (L := L) (lev := lv) b (fun p hp => by rw [Finset.mem_singleton.mp hp, L_tc]; exact Finset.mem_singleton_self _)
    (fun g u hg => by obtain ⟨i, -, rfl⟩ := oweL_pos hg; rw [L_tc]; exact Finset.mem_singleton_self _)
    (fun p hp => by rw [Finset.mem_singleton.mp hp]; exact hb)
    (fun g u hg => by obtain ⟨i, hi, rfl⟩ := oweL_pos hg; rw [lv_recv]; exact hl i hi)

theorem mayWait_stage (c : Dev nD) (q : DmaSem sig) (hq : recvIdx (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | rfl | rfl <;> (rw [L_tc]; exact Finset.mem_singleton_self _))
      (fun p hp => by rw [Finset.mem_singleton.mp hp]; exact le_of_eq (lv_other c _ (fun h => by cases h) hq))
      (fun g u hg => by
        rcases O₀_pos hg with ⟨i, rfl⟩ | rfl | rfl
        · rw [lv_recv]; exact lt_of_lt_of_le Nat.zero_lt_two (rlev_ge i)
        · rw [lv_bar]; exact Nat.one_pos
        · rw [lv_bar]; exact Nat.one_pos)
  · rw [MayWait_zero]; iintro -; iempintro

/-! ## All cells -/

/-- A device's cells: its barrier's, its send cells, its receive cells. -/
abbrev CI : Type := Unit ⊕ (Fin 12 ⊕ Fin 12)
abbrev osem : Fin 12 ⊕ Fin 12 → SemLoc sig := fun | .inl i => .dma (sendSem i) | .inr i => .dma (recvSem i)
abbrev csem : CI → SemLoc sig := fun | .inl _ => .reg barS | .inr k => osem k
abbrev kcell (ck : Dev nD × CI) : GSem nD τ sig := ((ck.1 : Thread nD τ), csem ck.2)

/-- Every cell's invariant, and that every cell has reached round 0. -/
def records (K : Dev nD × CI → ℕ) : sProp 𝕄 :=
  iprop((bigSep Finset.univ fun ck : Dev nD × CI => cellInv ER (ringRd m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) : records m ρ K ⊢ cellInv ER (ringRd m ρ) (K ck) (kcell ck) :=
  (by unfold records; iintro ⟨H, -⟩; iexact H : records m ρ K ⊢ bigSep Finset.univ fun ck : Dev nD × CI => cellInv ER (ringRd m ρ) (K ck) (kcell ck)).trans
    (bigSep_elim (Finset.mem_univ ck))
theorem reached_at (K : Dev nD × CI → ℕ) (ck : Dev nD × CI) : records m ρ K ⊢ reached ER (kcell ck) 0 :=
  (by unfold records; iintro ⟨-, H⟩; iexact H : records m ρ K ⊢ bigSep Finset.univ fun ck : Dev nD × CI => reached ER (kcell ck) 0).trans
    (bigSep_elim (Finset.mem_univ ck))

end Cert.KernelIdealProof

end
-- ==== Proof.KernelIdeal.Rules.lean ====
/-
# `KernelIdeal`: one rule per kind of step
-/
module

public import proofs.«01_k».proof.Proof.KernelIdeal.Schedule

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- What device `c` owes, whatever waits it has recorded. -/
def ow (c : Dev nD) (O : CellTallies nD τ sig Unit) : sProp 𝕄 := iprop(∃ W, owes (c : Thread nD τ) O W)

variable (K : Dev nD × CI → ℕ)

abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Starting transfer `i`: it takes the source's share, the target's elements and the two duties' tokens, and pays the
    credit owed for it; it leaves the credit to wait for it by on the send cell. -/
theorem wp_start (c : Dev nD) (i : Fin 12) (l : List (Fin 12)) (n : Dev nD) (hn : n = tgt i c)
    {hsc : (dstM i).view.ref.isScScratch = false}
    {hsrc : (srcM i).view.WordExact} {hdst : (dstM i).view.WordExact}
    {hsem : DmaTarget.Typed .vmem (.dma (recvSem i)) (.remote (Dev.tc n : Thread nD τ) (dstM i) (.dma (sendSem i)) hsc)}
    {α : Type} {Q : α → sProp 𝕄} {k : PUnit → Prog (TpuEff nD τ sig (Elt F) Λ₀ .tc) α} :
    iprop(records m ρ K ∗ srcP m ρ i c ∗ dstAny i (tgt i c) ∗ ow c (oweL c (i :: l))
        ∗ dutyTok ER (sendCell i c) 0 false ∗ dutyTok ER (recvCell i (tgt i c)) 0 false)
      ⊢ iprop(((cred (tallyAt (sendCell i c) () N) ∗ ow c (oweL c l)) -∗ wpc c (k ⟨⟩) Q)
          -∗ wpc c (.op (.enqueueDma (srcM i) (.remote (Dev.tc n : Thread nD τ) (dstM i) (.dma (sendSem i)) hsc) (.dma (recvSem i)) hsrc hdst hsem) k) Q) := by
  subst hn
  unfold srcP dstAny ow
  iintro ⟨#HR, Hs, ⟨%fd, Hd⟩, ⟨%W, HO⟩, Ht1, Ht2⟩ Hk
  iapply (Rounds.wp_send_pointsTo 𝒱₀ ER (ringRd m ρ) (c : Thread nD τ) none (κ₁ := K (c, .inr (.inl i))) (κ₂ := K (tgt i c, .inr (.inr i)))
    (r₁ := 0) (r₂ := 0) (d₁ := false) (d₂ := false) (fs := srcF m ρ i c) (q := sh i) (fd := fd)
    (by rw [duties_send]; exact Finset.mem_singleton_self _) (by rw [duties_recv]; exact Finset.mem_singleton_self _)
    () () N (by rw [View.amount_dma]) (amount_send m ρ c i false) (amount_recv m ρ (tgt i c) i false) (oweL c l) rfl (W := W)
    (by rw [payload_send]; exact BI.Entails.refl _)
    (by rw [payload_recv]; unfold dstP; exact Entails.of_eq (pointsTo_congr (write_carried m ρ i c fd)))) $$ [Hs Hd HO Ht1 Ht2]
  · isplitr; · iapply (inv_at m ρ K (c, .inr (.inl i))); iexact HR
    isplitr; · iapply (inv_at m ρ K (tgt i c, .inr (.inr i))); iexact HR
    isplitl [Hs]; · iexact Hs
    isplitl [Hd]; · iexact Hd
    isplitl [HO]; · iexact HO
    isplitl [Ht1]; · iexact Ht1
    isplitr; · iapply (reached_at m ρ K (c, .inr (.inl i))); iexact HR
    isplitl [Ht2]; · iexact Ht2
    iapply (reached_at m ρ K (tgt i c, .inr (.inr i))); iexact HR
  iintro ⟨Hc, HO⟩
  iapply Hk
  isplitl [Hc]; · iexact Hc
  iexists W; iexact HO

/-- Waiting for transfer `i` to have landed on `c`: the landed elements are `c`'s, and the cell, done with, is closed. -/
theorem wp_landed (c : Dev nD) (i : Fin 12) (l : List (Fin 12)) (hl : ∀ j ∈ l, rlev i < rlev j)
    {src dst : Memref sig .tc .vmem S2048x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records m ρ K ∗ levAts L lv ∗ cred (tallyAt (recvCell i c) () N) ∗ ow c (oweL c l) ∗ atPos ER (recvCell i c) 0 ∅ 0)
      ⊢ iprop(((dstP m ρ fullShare i c ∗ ow c (oweL c l) ∗ semVal (recvCell i c) 0) -∗ wpc c (k ⟨⟩) Q)
          -∗ wpc c (.op (.waitDma2 (recvSem i) src dst hsrc hdst) k) Q) := by
  unfold ow
  iintro ⟨#HR, #Hlev, Hc, ⟨%W, HO⟩, Hat⟩ Hk
  ihave #HI := (inv_at m ρ K (c, .inr (.inr i))) $$ HR
  iapply (Rounds.wp_wait_rest_token 𝒱₀ ER (ringRd m ρ) (c : Thread nD τ) none (κ := K (c, .inr (.inr i)))
      (wpE_waitDma2_eq 𝒱₀ (c : Thread nD τ) none Set.univ) (Set.mem_univ _) () (O := oweL c l) (W := W) (R := 0) (m := 0) (T := ∅)
      (by rw [Nat.zero_add, hN, expect_recv])) $$ [Hc HO Hat]
  · isplitr; · iexact HI
    isplitl [Hc]; · iexact Hc
    isplitl [HO]; · iexact HO
    isplitr
    · iapply (mayWait_list c (.dma (recvSem i)) (rlev i) (le_of_eq (lv_recv i c)) l hl); iexact Hlev
    iexact Hat
  iintro ⟨HO, Hat, -, Hpay⟩
  imod (Rounds.cell_close ER (ringRd m ρ) (Set.mem_univ (K (c, .inr (.inr i)))) (fun h => h) (R := 0 + 1) (duties_later m ρ (recvCell i c))) $$ [Hat] with Hz
  · isplitr; · iexact HI
    iexact Hat
  iapply Hk
  isplitl [Hpay]; · iapply (Entails.of_eq (rest_recv m ρ c i)); iexact Hpay
  isplitl [HO]; · iexists _; iexact HO
  iexact Hz

/-- Waiting, owing nothing, for `c`'s transfer `i` to have left: the source's share is back, and the cell is closed. -/
theorem wp_sent (c : Dev nD) (i : Fin 12)
    {src dst : Memref sig .tc .vmem S2048x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records m ρ K ∗ cred (tallyAt (sendCell i c) () N) ∗ ow c 0 ∗ atPos ER (sendCell i c) 0 ∅ 0)
      ⊢ iprop(((srcP m ρ i c ∗ ow c 0 ∗ semVal (sendCell i c) 0) -∗ wpc c (k ⟨⟩) Q)
          -∗ wpc c (.op (.waitDma2 (sendSem i) src dst hsrc hdst) k) Q) := by
  unfold ow
  iintro ⟨#HR, Hc, ⟨%W, HO⟩, Hat⟩ Hk
  ihave #HI := (inv_at m ρ K (c, .inr (.inl i))) $$ HR
  iapply (Rounds.wp_wait_rest_token 𝒱₀ ER (ringRd m ρ) (c : Thread nD τ) none (κ := K (c, .inr (.inl i)))
      (wpE_waitDma2_eq 𝒱₀ (c : Thread nD τ) none Set.univ) (Set.mem_univ _) () (O := 0) (W := W) (R := 0) (m := 0) (T := ∅)
      (by rw [Nat.zero_add, hN, expect_send])) $$ [Hc HO Hat]
  · isplitr; · iexact HI
    isplitl [Hc]; · iexact Hc
    isplitl [HO]; · iexact HO
    isplitr
    · rw [MayWait_zero]; iempintro
    iexact Hat
  iintro ⟨HO, Hat, -, Hpay⟩
  imod (Rounds.cell_close ER (ringRd m ρ) (Set.mem_univ (K (c, .inr (.inl i)))) (fun h => h) (R := 0 + 1) (duties_later m ρ (sendCell i c))) $$ [Hat] with Hz
  · isplitr; · iexact HI
    iexact Hat
  iapply Hk
  isplitl [Hpay]; · iapply (Entails.of_eq (rest_send m ρ c i)); iexact Hpay
  isplitl [HO]; · iexists _; iexact HO
  iexact Hz

/-- The first signal, to the previous device: it hands it the half slots that device writes. -/
theorem wp_signal_prv (c n : Dev nD) (hn : n = prv c) {α : Type} {Q : α → sProp 𝕄} {k : PUnit → Prog (TpuEff nD τ sig (Elt F) Λ₀ .tc) α} :
    iprop(records m ρ K ∗ ow c (O₀ c) ∗ dutyTok ER (barCell (prv c)) 0 true
        ∗ (dstAny 0 c ∗ dstAny 1 c ∗ dstAny 2 c ∗ dstAny 3 c ∗ dstAny 8 c ∗ dstAny 9 c))
      ⊢ iprop((ow c (O₁ c) -∗ wpc c (k ⟨⟩) Q) -∗ wpc c (.op (.semSignal (Dev.tc n) barS (1#32).toNat) k) Q) := by
  subst hn
  unfold ow
  iintro ⟨#HR, ⟨%W, HO⟩, Ht, Hp⟩ Hk
  iapply (Rounds.wp_signal 𝒱₀ ER (ringRd m ρ) (c : Thread nD τ) none (dst := (prv c : Thread nD τ)) (κ := K (prv c, .inl ()))
      (d := true) (by rw [duties_bar]; exact Finset.mem_univ _) ((amount_bar m ρ (prv c) true).trans (by decide)) () (O₁ c) rfl)
    $$ [HO Ht Hp]
  · isplitr; · iapply (inv_at m ρ K (prv c, .inl ())); iexact HR
    isplitl [HO]; · iexact HO
    isplitl [Ht]; · iexact Ht
    isplitl [Hp]
    · rw [payload_bar_true]; unfold barPayR; rw [nxt_prv]; iexact Hp
    iapply (reached_at m ρ K (prv c, .inl ())); iexact HR
  iintro HO
  iapply Hk; iexists W; iexact HO

/-- The second signal, to the next device. -/
theorem wp_signal_nxt (c n : Dev nD) (hn : n = nxt c) {α : Type} {Q : α → sProp 𝕄} {k : PUnit → Prog (TpuEff nD τ sig (Elt F) Λ₀ .tc) α} :
    iprop(records m ρ K ∗ ow c (O₁ c) ∗ dutyTok ER (barCell (nxt c)) 0 false
        ∗ (dstAny 4 c ∗ dstAny 5 c ∗ dstAny 6 c ∗ dstAny 7 c ∗ dstAny 10 c ∗ dstAny 11 c))
      ⊢ iprop((ow c (oweL c order) -∗ wpc c (k ⟨⟩) Q) -∗ wpc c (.op (.semSignal (Dev.tc n) barS (1#32).toNat) k) Q) := by
  subst hn
  unfold ow
  iintro ⟨#HR, ⟨%W, HO⟩, Ht, Hp⟩ Hk
  iapply (Rounds.wp_signal 𝒱₀ ER (ringRd m ρ) (c : Thread nD τ) none (dst := (nxt c : Thread nD τ)) (κ := K (nxt c, .inl ()))
      (d := false) (by rw [duties_bar]; exact Finset.mem_univ _) ((amount_bar m ρ (nxt c) false).trans (by decide)) () (oweL c order) rfl)
    $$ [HO Ht Hp]
  · isplitr; · iapply (inv_at m ρ K (nxt c, .inl ())); iexact HR
    isplitl [HO]; · iexact HO
    isplitl [Ht]; · iexact Ht
    isplitl [Hp]
    · rw [payload_bar_false]; unfold barPayL; rw [prv_nxt]; iexact Hp
    iapply (reached_at m ρ K (nxt c, .inl ())); iexact HR
  iintro HO
  iapply Hk; iexists W; iexact HO

/-- The barrier wait: both neighbours have handed over the half slots `c` writes on them. -/
theorem wp_barrier (c : Dev nD) {α : Type} {Q : α → sProp 𝕄} {k : PUnit → Prog (TpuEff nD τ sig (Elt F) Λ₀ .tc) α} :
    iprop(records m ρ K ∗ levAts L lv ∗ cred (tallyAt (barCell c) () 2) ∗ ow c (oweL c order) ∗ atPos ER (barCell c) 0 ∅ 0)
      ⊢ iprop(((barPayL c ∗ barPayR c ∗ ow c (oweL c order) ∗ semVal (barCell c) 0) -∗ wpc c (k ⟨⟩) Q)
          -∗ wpc c (.op (.semWait barS (2#32).toNat) k) Q) := by
  unfold ow
  iintro ⟨#HR, #Hlev, Hc, ⟨%W, HO⟩, Hat⟩ Hk
  ihave #HI := (inv_at m ρ K (c, .inl ())) $$ HR
  iapply (Rounds.wp_wait_rest_token 𝒱₀ ER (ringRd m ρ) (c : Thread nD τ) none (κ := K (c, .inl ()))
      (wpE_semWait_eq 𝒱₀ (c : Thread nD τ) none Set.univ) (Set.mem_univ _) () (O := oweL c order) (W := W) (R := 0) (m := 0) (T := ∅)
      (by rw [expect_bar]; decide)) $$ [Hc HO Hat]
  · isplitr; · iexact HI
    isplitl [Hc]; · iexact Hc
    isplitl [HO]; · iexact HO
    isplitr
    · iapply (mayWait_list c (.reg barS) 1 (le_of_eq (lv_bar c)) order (fun i _ => rlev_ge i)); iexact Hlev
    iexact Hat
  iintro ⟨HO, Hat, -, Hpay⟩
  imod (Rounds.cell_close ER (ringRd m ρ) (Set.mem_univ (K (c, .inl ()))) (fun h => h) (R := 0 + 1) (duties_later m ρ (barCell c))) $$ [Hat] with Hz
  · isplitr; · iexact HI
    iexact Hat
  ihave Hp := (Entails.of_eq (rest_bar m ρ c)) $$ Hpay
  icases Hp with ⟨HL, HR⟩
  iapply Hk
  isplitl [HL]; · iexact HL
  isplitl [HR]; · iexact HR
  isplitl [HO]; · iexists _; iexact HO
  iexact Hz

end Cert.KernelIdealProof

end
-- ==== Proof.KernelIdeal.Loops.lean ====
/-
# `KernelIdeal`: the loops over blocks of rows
-/
module

public import proofs.«01_k».proof.Proof.KernelIdeal.Rules

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Blocks of 256 rows -/

theorem blk_inb (k : Fin 16) : ∀ a, (![256 * k.val, 0] : Fin 2 → ℕ) a + S256x512.size a ≤ S4096x512.size a := fun a => by
  have := k.isLt
  fin_cases a
  · show 256 * k.val + 256 ≤ 4096; omega
  · show 0 + 512 ≤ 512; omega
theorem blk1_inb (k : Fin 16) : ∀ a, (![256 * k.val, 0] : Fin 2 → ℕ) a + S256x1.size a ≤ S4096x1.size a := fun a => by
  have := k.isLt
  fin_cases a
  · show 256 * k.val + 256 ≤ 4096; omega
  · show 0 + 1 ≤ 1; omega

abbrev rB (k : Fin 16) : Rect S4096x512 := Rect.unit (s := S4096x512) ![256 * k.val, 0] S256x512.size (blk_inb k)
abbrev rB1 (k : Fin 16) : Rect S4096x1 := Rect.unit (s := S4096x1) ![256 * k.val, 0] S256x1.size (blk1_inb k)

/-- Block `k` of the queries, of the accumulator, of the row sums. -/
abbrev rdQ (k : Fin 16) (q : (cc0_stg0_0 : Ref sig .tc).ty.Contents (Elt F)) : Vec F S256x512 .bf16 := qM.view.readAt (Elt F) (rB k).toLoadRect q
abbrev rdO (k : Fin 16) (o : (cc0_stg3_0 : Ref sig .tc).ty.Contents (Elt F)) : Vec F S256x512 .f32 := oM.view.readAt (Elt F) (rB k).toLoadRect o
abbrev rdL (k : Fin 16) (l : (cc0_scratch2 : Ref sig .tc).ty.Contents (Elt F)) : Vec F S256x1 .f32 := lM.view.readAt (Elt F) (rB1 k).toLoadRect l

/-- An array of 4096 rows given block by block. -/
def glueO (f : Fin 16 → Vec F S256x512 .f32) : (cc0_stg3_0 : Ref sig .tc).ty.Contents (Elt F) := fun j : S4096x512.Idx =>
  f ⟨(j 0).val / 256, by have h : (j 0).val < 4096 := (j 0).isLt; omega⟩ (ix2 (⟨(j 0).val % 256, Nat.mod_lt _ (by decide)⟩ : Fin 256) (j 1 : Fin 512))
def glueL (f : Fin 16 → Vec F S256x1 .f32) : (cc0_scratch2 : Ref sig .tc).ty.Contents (Elt F) := fun j : S4096x1.Idx =>
  f ⟨(j 0).val / 256, by have h : (j 0).val < 4096 := (j 0).isLt; omega⟩ (ix2 (⟨(j 0).val % 256, Nat.mod_lt _ (by decide)⟩ : Fin 256) (j 1 : Fin 1))

/-- The first `n` blocks of one array, then the other's. -/
def mixO (n : ℕ) (a b : (cc0_stg3_0 : Ref sig .tc).ty.Contents (Elt F)) : (cc0_stg3_0 : Ref sig .tc).ty.Contents (Elt F) :=
  fun j : S4096x512.Idx => if (j 0).val < 256 * n then a j else b j
def mixL (n : ℕ) (a b : (cc0_scratch2 : Ref sig .tc).ty.Contents (Elt F)) : (cc0_scratch2 : Ref sig .tc).ty.Contents (Elt F) :=
  fun j : S4096x1.Idx => if (j 0).val < 256 * n then a j else b j

theorem mixO_zero (a b : (cc0_stg3_0 : Ref sig .tc).ty.Contents (Elt F)) : mixO 0 a b = b :=
  funext fun j : S4096x512.Idx => if_neg (Nat.not_lt_zero _)
theorem mixL_zero (a b : (cc0_scratch2 : Ref sig .tc).ty.Contents (Elt F)) : mixL 0 a b = b :=
  funext fun j : S4096x1.Idx => if_neg (Nat.not_lt_zero _)
theorem mixO_all (a b : (cc0_stg3_0 : Ref sig .tc).ty.Contents (Elt F)) : mixO 16 a b = a :=
  funext fun j : S4096x512.Idx => if_pos (j 0).isLt
theorem mixL_all (a b : (cc0_scratch2 : Ref sig .tc).ty.Contents (Elt F)) : mixL 16 a b = a :=
  funext fun j : S4096x1.Idx => if_pos (j 0).isLt

theorem rB_emb (k : Fin 16) (x : S256x512.Idx) (j : S4096x512.Idx) (hj : (rB k).emb x = j) : (j 0).val = 256 * k.val + (x 0).val ∧ (j 1).val = (x 1).val := by
  subst hj
  exact ⟨unit_emb (s := S4096x512) _ _ _ x 0, (unit_emb (s := S4096x512) _ _ _ x 1).trans (Nat.zero_add _)⟩
theorem rB1_emb (k : Fin 16) (x : S256x1.Idx) (j : S4096x1.Idx) (hj : (rB1 k).emb x = j) : (j 0).val = 256 * k.val + (x 0).val ∧ (j 1).val = (x 1).val := by
  subst hj
  exact ⟨unit_emb (s := S4096x1) _ _ _ x 0, (unit_emb (s := S4096x1) _ _ _ x 1).trans (Nat.zero_add _)⟩

theorem glueO_at (f : Fin 16 → Vec F S256x512 .f32) (k : Fin 16) (x : S256x512.Idx) (j : S4096x512.Idx) (hj : (rB k).emb x = j) : glueO f j = f k x := by
  obtain ⟨h0, h1⟩ := rB_emb k x j hj
  have hx : (x 0).val < 256 := (x 0).isLt
  unfold glueO
  have e1 : (⟨(j 0).val / 256, by have h : (j 0).val < 4096 := (j 0).isLt; omega⟩ : Fin 16) = k := Fin.ext (by show (j 0).val / 256 = k.val; omega)
  have e2 : (ix2 (⟨(j 0).val % 256, Nat.mod_lt _ (by decide)⟩ : Fin 256) (j 1 : Fin 512) : S256x512.Idx) = x := by
    rw [eq_ix2 x]
    exact congrArg₂ (ix2 (n0 := 256) (n1 := 512)) (Fin.ext (by show (j 0).val % 256 = (x 0).val; omega)) (Fin.ext h1)
  exact congr (congrArg f e1) e2
theorem glueL_at (f : Fin 16 → Vec F S256x1 .f32) (k : Fin 16) (x : S256x1.Idx) (j : S4096x1.Idx) (hj : (rB1 k).emb x = j) : glueL f j = f k x := by
  obtain ⟨h0, h1⟩ := rB1_emb k x j hj
  have hx : (x 0).val < 256 := (x 0).isLt
  unfold glueL
  have e1 : (⟨(j 0).val / 256, by have h : (j 0).val < 4096 := (j 0).isLt; omega⟩ : Fin 16) = k := Fin.ext (by show (j 0).val / 256 = k.val; omega)
  have e2 : (ix2 (⟨(j 0).val % 256, Nat.mod_lt _ (by decide)⟩ : Fin 256) (j 1 : Fin 1) : S256x1.Idx) = x := by
    rw [eq_ix2 x]
    exact congrArg₂ (ix2 (n0 := 256) (n1 := 1)) (Fin.ext (by show (j 0).val % 256 = (x 0).val; omega)) (Fin.ext h1)
  exact congr (congrArg f e1) e2

/-- Block `k` of the mixture at `k` is still the second array's; -/
theorem rdO_mix (k : Fin 16) (a b : (cc0_stg3_0 : Ref sig .tc).ty.Contents (Elt F)) : rdO k (mixO k.val a b) = rdO k b := by
  funext x
  have h := (rB_emb k x _ rfl).1
  exact if_neg (by show ¬ ((rB k).emb x 0).val < _; omega)
theorem rdL_mix (k : Fin 16) (a b : (cc0_scratch2 : Ref sig .tc).ty.Contents (Elt F)) : rdL k (mixL k.val a b) = rdL k b := by
  funext x
  have h := (rB1_emb k x _ rfl).1
  exact if_neg (by show ¬ ((rB1 k).emb x 0).val < _; omega)

theorem mem_rB (k : Fin 16) (j : S4096x512.Idx) : j ∈ (rB k).set ↔ 256 * k.val ≤ (j 0).val ∧ (j 0).val < 256 * k.val + 256 := by
  rw [Rect.mem_set_unit]
  constructor
  · intro h; exact h 0
  · rintro ⟨h0, h1⟩ a
    have h3 : (j 1).val < 512 := (j 1).isLt
    fin_cases a
    · exact ⟨h0, h1⟩
    · show 0 ≤ (j 1).val ∧ (j 1).val < 0 + 512; omega
theorem mem_rB1 (k : Fin 16) (j : S4096x1.Idx) : j ∈ (rB1 k).set ↔ 256 * k.val ≤ (j 0).val ∧ (j 0).val < 256 * k.val + 256 := by
  rw [Rect.mem_set_unit]
  constructor
  · intro h; exact h 0
  · rintro ⟨h0, h1⟩ a
    have h3 : (j 1).val < 1 := (j 1).isLt
    fin_cases a
    · exact ⟨h0, h1⟩
    · show 0 ≤ (j 1).val ∧ (j 1).val < 0 + 1; omega

/-- storing the first array's block `k` over it makes the mixture at `k + 1`. -/
theorem wrO_mix (k : Fin 16) (f : Fin 16 → Vec F S256x512 .f32) (b : (cc0_stg3_0 : Ref sig .tc).ty.Contents (Elt F)) :
    (oM.access (rB k) : View sig .tc _ _ _).write (Elt F) (mixO k.val (glueO f) b) (f k) Finset.univ = mixO (k.val + 1) (glueO f) b := by
  funext (j : S4096x512.Idx)
  by_cases hj : j ∈ (rB k).set
  · rw [← Rect.map_emb_univ] at hj
    obtain ⟨x, -, hx⟩ := Finset.mem_map.mp hj
    have h0 := (rB_emb k x j hx).1
    have hlt : (x 0).val < 256 := (x 0).isLt
    refine Eq.trans ?_ (if_pos (by omega) : mixO (k.val + 1) (glueO f) b j = glueO f j).symm
    rw [glueO_at f k x j hx, ← hx]
    exact (View.write_emb_of_mem (v := (oM.access (rB k) : View sig .tc _ _ _)) _ _ (Finset.mem_univ x))
  · rw [View.write_of_not_mem _ _ _ (by rw [View.setOn_univ]; exact fun h => hj ((View.set_slice_whole cc0_stg3_0 (rB k)) ▸ h))]
    rw [mem_rB] at hj
    unfold mixO
    by_cases hlt : (j 0).val < 256 * k.val
    · rw [if_pos hlt, if_pos (by omega)]
    · rw [if_neg hlt, if_neg (by omega)]
theorem wrL_mix (k : Fin 16) (f : Fin 16 → Vec F S256x1 .f32) (b : (cc0_scratch2 : Ref sig .tc).ty.Contents (Elt F)) :
    (lM.access (rB1 k) : View sig .tc _ _ _).write (Elt F) (mixL k.val (glueL f) b) (f k) Finset.univ = mixL (k.val + 1) (glueL f) b := by
  funext (j : S4096x1.Idx)
  by_cases hj : j ∈ (rB1 k).set
  · rw [← Rect.map_emb_univ] at hj
    obtain ⟨x, -, hx⟩ := Finset.mem_map.mp hj
    have h0 := (rB1_emb k x j hx).1
    have hlt : (x 0).val < 256 := (x 0).isLt
    refine Eq.trans ?_ (if_pos (by omega) : mixL (k.val + 1) (glueL f) b j = glueL f j).symm
    rw [glueL_at f k x j hx, ← hx]
    exact (View.write_emb_of_mem (v := (lM.access (rB1 k) : View sig .tc _ _ _)) _ _ (Finset.mem_univ x))
  · rw [View.write_of_not_mem _ _ _ (by rw [View.setOn_univ]; exact fun h => hj ((View.set_slice_whole cc0_scratch2 (rB1 k)) ▸ h))]
    rw [mem_rB1] at hj
    unfold mixL
    by_cases hlt : (j 0).val < 256 * k.val
    · rw [if_pos hlt, if_pos (by omega)]
    · rw [if_neg hlt, if_neg (by omega)]

end Cert.KernelIdealProof

end
-- ==== Proof.KernelIdeal.Sweeps.lean ====
/-
# `KernelIdeal`: the rules of the loops
-/
module

public import proofs.«01_k».proof.Proof.KernelIdeal.Loops

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section
variable {n : ℕ} (oq ol : Fin n → Fin 2 → ℕ)
  (hq : ∀ k a, oq k a + S256x512.size a ≤ S4096x512.size a) (hl : ∀ k a, ol k a + S256x1.size a ≤ S4096x1.size a)

/-- One trip of the first loop: the block of sums and the block of the accumulator are set. -/
def setBody (P : Vec F S256x512 .bf16 → FVec F S256x1 .f32) (R : Vec F S256x512 .bf16 → FVec F S256x512 .f32) :
    Fin n → Unit → Prog (TpuEff nD τ sig (Elt F) Λ₀ .tc) Unit := fun k _ => do
  let x : Vec F S256x512 .bf16 ← Prog.lift (.load qM (Rect.unit (s := S4096x512) (oq k) S256x512.size (hq k)).toLoadRect (View.loadsAt_vmem h_S256x512))
  let _y : Vec F S256x1 .f32 ← Prog.lift (.load lM (Rect.unit (s := S4096x1) (ol k) S256x1.size (hl k)).toLoadRect (View.loadsAt_vmem h_S256x1))
  Prog.lift (.store lM (Rect.unit (s := S4096x1) (ol k) S256x1.size (hl k)) (P x) Finset.univ (View.stores_vmem_bits_univ h_S256x1 rfl) (.inl rfl))
  let _z : Vec F S256x512 .f32 ← Prog.lift (.load oM (Rect.unit (s := S4096x512) (oq k) S256x512.size (hq k)).toLoadRect (View.loadsAt_vmem h_S256x512))
  Prog.lift (.store oM (Rect.unit (s := S4096x512) (oq k) S256x512.size (hq k)) (R x) Finset.univ (View.stores_vmem_bits_univ h_S256x512 rfl) (.inl rfl))
  pure ⟨⟩

/-- One trip of a loop that adds a chunk's part to the block of sums and to the block of the accumulator. -/
def addBody (P : Vec F S256x512 .bf16 → Vec F S256x1 .f32 → FVec F S256x1 .f32) (R : Vec F S256x512 .bf16 → Vec F S256x512 .f32 → FVec F S256x512 .f32) :
    Fin n → Unit → Prog (TpuEff nD τ sig (Elt F) Λ₀ .tc) Unit := fun k _ => do
  let x : Vec F S256x512 .bf16 ← Prog.lift (.load qM (Rect.unit (s := S4096x512) (oq k) S256x512.size (hq k)).toLoadRect (View.loadsAt_vmem h_S256x512))
  let y : Vec F S256x1 .f32 ← Prog.lift (.load lM (Rect.unit (s := S4096x1) (ol k) S256x1.size (hl k)).toLoadRect (View.loadsAt_vmem h_S256x1))
  let _y : Vec F S256x1 .f32 ← Prog.lift (.load lM (Rect.unit (s := S4096x1) (ol k) S256x1.size (hl k)).toLoadRect (View.loadsAt_vmem h_S256x1))
  Prog.lift (.store lM (Rect.unit (s := S4096x1) (ol k) S256x1.size (hl k)) (P x y) Finset.univ (View.stores_vmem_bits_univ h_S256x1 rfl) (.inl rfl))
  let z : Vec F S256x512 .f32 ← Prog.lift (.load oM (Rect.unit (s := S4096x512) (oq k) S256x512.size (hq k)).toLoadRect (View.loadsAt_vmem h_S256x512))
  let _z : Vec F S256x512 .f32 ← Prog.lift (.load oM (Rect.unit (s := S4096x512) (oq k) S256x512.size (hq k)).toLoadRect (View.loadsAt_vmem h_S256x512))
  Prog.lift (.store oM (Rect.unit (s := S4096x512) (oq k) S256x512.size (hq k)) (R x z) Finset.univ (View.stores_vmem_bits_univ h_S256x512 rfl) (.inl rfl))
  pure ⟨⟩

/-- One trip of the last loop: the block of the accumulator is replaced by a function of it and of the block of sums. -/
def endBody (R : Vec F S256x512 .f32 → Vec F S256x1 .f32 → FVec F S256x512 .f32) :
    Fin n → Unit → Prog (TpuEff nD τ sig (Elt F) Λ₀ .tc) Unit := fun k _ => do
  let z : Vec F S256x512 .f32 ← Prog.lift (.load oM (Rect.unit (s := S4096x512) (oq k) S256x512.size (hq k)).toLoadRect (View.loadsAt_vmem h_S256x512))
  let y : Vec F S256x1 .f32 ← Prog.lift (.load lM (Rect.unit (s := S4096x1) (ol k) S256x1.size (hl k)).toLoadRect (View.loadsAt_vmem h_S256x1))
  let _z : Vec F S256x512 .f32 ← Prog.lift (.load oM (Rect.unit (s := S4096x512) (oq k) S256x512.size (hq k)).toLoadRect (View.loadsAt_vmem h_S256x512))
  Prog.lift (.store oM (Rect.unit (s := S4096x512) (oq k) S256x512.size (hq k)) (R z y) Finset.univ (View.stores_vmem_bits_univ h_S256x512 rfl) (.inl rfl))
  pure ⟨⟩
end

/-- The query block, the accumulator and the sums as the loops hold them. -/
def held (c : Dev nD) (q : (cc0_stg0_0 : Ref sig .tc).ty.Contents (Elt F)) (o : (cc0_stg3_0 : Ref sig .tc).ty.Contents (Elt F)) (l : (cc0_scratch2 : Ref sig .tc).ty.Contents (Elt F)) : sProp 𝕄 :=
  iprop(((((c : Thread nD τ).loc cc0_stg0_0) ↦{fullShare} q) : sProp 𝕄)
    ∗ ((((c : Thread nD τ).loc cc0_stg3_0) ↦{fullShare} o) : sProp 𝕄)
    ∗ ((((c : Thread nD τ).loc cc0_scratch2) ↦{fullShare} l) : sProp 𝕄))

section
variable (c : Dev nD) (q : (cc0_stg0_0 : Ref sig .tc).ty.Contents (Elt F)) (o : (cc0_stg3_0 : Ref sig .tc).ty.Contents (Elt F)) (l : (cc0_scratch2 : Ref sig .tc).ty.Contents (Elt F))
  (oq ol : Fin 16 → Fin 2 → ℕ)
  (hq : ∀ k a, oq k a + S256x512.size a ≤ S4096x512.size a) (hl : ∀ k a, ol k a + S256x1.size a ≤ S4096x1.size a)
  (eq : ∀ k, oq k = ![256 * k.val, 0]) (el : ∀ k, ol k = ![256 * k.val, 0])
include eq el

theorem wp_set_trip (P : Vec F S256x512 .bf16 → FVec F S256x1 .f32) (R : Vec F S256x512 .bf16 → FVec F S256x512 .f32) (k : Fin 16) :
    held c q (mixO k.val (glueO fun k => R (rdQ k q)) o) (mixL k.val (glueL fun k => P (rdQ k q)) l)
      ⊢ wpc c (setBody oq ol hq hl P R k ⟨⟩) fun _ => held c q (mixO (k.val + 1) (glueO fun k => R (rdQ k q)) o) (mixL (k.val + 1) (glueL fun k => P (rdQ k q)) l) := by
  obtain rfl : oq = fun k => ![256 * k.val, 0] := funext eq
  obtain rfl : ol = fun k => ![256 * k.val, 0] := funext el
  unfold setBody held wpc
  simp only [Prog.lift, Prog.bind_op, Prog.bind_ret, Prog.pure_eq_ret]
  iintro ⟨Hq, Ho, Hl⟩
  iapply (wp_load 𝒱₀ (c : Thread nD τ) none Set.univ (m := qM) (Finset.subset_univ _)) $$ Hq
  iintro Hq
  iapply (wp_load 𝒱₀ (c : Thread nD τ) none Set.univ (m := lM) (Finset.subset_univ _)) $$ Hl
  iintro Hl
  iapply (wp_store 𝒱₀ (c : Thread nD τ) none Set.univ (m := lM) (r := rB1 k) (Finset.subset_univ _)) $$ Hl
  iintro Hl
  iapply (wp_load 𝒱₀ (c : Thread nD τ) none Set.univ (m := oM) (Finset.subset_univ _)) $$ Ho
  iintro Ho
  iapply (wp_store 𝒱₀ (c : Thread nD τ) none Set.univ (m := oM) (r := rB k) (Finset.subset_univ _)) $$ Ho
  iintro Ho
  rw [← wrO_mix k, ← wrL_mix k]
  rw [wp_ret]; imodintro
  isplitl [Hq]
  · iexact Hq
  isplitl [Ho]
  · iexact Ho
  · iexact Hl

theorem wp_add_trip (P : Vec F S256x512 .bf16 → Vec F S256x1 .f32 → FVec F S256x1 .f32) (R : Vec F S256x512 .bf16 → Vec F S256x512 .f32 → FVec F S256x512 .f32) (k : Fin 16) :
    held c q (mixO k.val (glueO fun k => R (rdQ k q) (rdO k o)) o) (mixL k.val (glueL fun k => P (rdQ k q) (rdL k l)) l)
      ⊢ wpc c (addBody oq ol hq hl P R k ⟨⟩) fun _ => held c q (mixO (k.val + 1) (glueO fun k => R (rdQ k q) (rdO k o)) o) (mixL (k.val + 1) (glueL fun k => P (rdQ k q) (rdL k l)) l) := by
  obtain rfl : oq = fun k => ![256 * k.val, 0] := funext eq
  obtain rfl : ol = fun k => ![256 * k.val, 0] := funext el
  unfold addBody held wpc
  simp only [Prog.lift, Prog.bind_op, Prog.bind_ret, Prog.pure_eq_ret]
  iintro ⟨Hq, Ho, Hl⟩
  iapply (wp_load 𝒱₀ (c : Thread nD τ) none Set.univ (m := qM) (Finset.subset_univ _)) $$ Hq
  iintro Hq
  iapply (wp_load 𝒱₀ (c : Thread nD τ) none Set.univ (m := lM) (Finset.subset_univ _)) $$ Hl
  iintro Hl
  iapply (wp_load 𝒱₀ (c : Thread nD τ) none Set.univ (m := lM) (Finset.subset_univ _)) $$ Hl
  iintro Hl
  iapply (wp_store 𝒱₀ (c : Thread nD τ) none Set.univ (m := lM) (r := rB1 k) (Finset.subset_univ _)) $$ Hl
  iintro Hl
  iapply (wp_load 𝒱₀ (c : Thread nD τ) none Set.univ (m := oM) (Finset.subset_univ _)) $$ Ho
  iintro Ho
  iapply (wp_load 𝒱₀ (c : Thread nD τ) none Set.univ (m := oM) (Finset.subset_univ _)) $$ Ho
  iintro Ho
  iapply (wp_store 𝒱₀ (c : Thread nD τ) none Set.univ (m := oM) (r := rB k) (Finset.subset_univ _)) $$ Ho
  iintro Ho
  rw [← wrO_mix k, ← wrL_mix k, show rdO k o = _ from (rdO_mix k (glueO fun k => R (rdQ k q) (rdO k o)) o).symm, show rdL k l = _ from (rdL_mix k (glueL fun k => P (rdQ k q) (rdL k l)) l).symm]
  rw [wp_ret]; imodintro
  isplitl [Hq]
  · iexact Hq
  isplitl [Ho]
  · iexact Ho
  · iexact Hl

theorem wp_end_trip (R : Vec F S256x512 .f32 → Vec F S256x1 .f32 → FVec F S256x512 .f32) (k : Fin 16) :
    held c q (mixO k.val (glueO fun k => R (rdO k o) (rdL k l)) o) l
      ⊢ wpc c (endBody oq ol hq hl R k ⟨⟩) fun _ => held c q (mixO (k.val + 1) (glueO fun k => R (rdO k o) (rdL k l)) o) l := by
  obtain rfl : oq = fun k => ![256 * k.val, 0] := funext eq
  obtain rfl : ol = fun k => ![256 * k.val, 0] := funext el
  unfold endBody held wpc
  simp only [Prog.lift, Prog.bind_op, Prog.bind_ret, Prog.pure_eq_ret]
  iintro ⟨Hq, Ho, Hl⟩
  iapply (wp_load 𝒱₀ (c : Thread nD τ) none Set.univ (m := oM) (Finset.subset_univ _)) $$ Ho
  iintro Ho
  iapply (wp_load 𝒱₀ (c : Thread nD τ) none Set.univ (m := lM) (Finset.subset_univ _)) $$ Hl
  iintro Hl
  iapply (wp_load 𝒱₀ (c : Thread nD τ) none Set.univ (m := oM) (Finset.subset_univ _)) $$ Ho
  iintro Ho
  iapply (wp_store 𝒱₀ (c : Thread nD τ) none Set.univ (m := oM) (r := rB k) (Finset.subset_univ _)) $$ Ho
  iintro Ho
  rw [← wrO_mix k, show rdO k o = _ from (rdO_mix k (glueO fun k => R (rdO k o) (rdL k l)) o).symm]
  rw [wp_ret]; imodintro
  isplitl [Hq]
  · iexact Hq
  isplitl [Ho]
  · iexact Ho
  · iexact Hl
end

/-! ## Whole loops -/

/-- Sixteen trips. -/
abbrev L16 : Scf.Loop 32 := ⟨0#32, Scalar.addi 0#32 16#32, 1#32⟩

section
variable (c : Dev nD) (q : (cc0_stg0_0 : Ref sig .tc).ty.Contents (Elt F)) (o : (cc0_stg3_0 : Ref sig .tc).ty.Contents (Elt F)) (l : (cc0_scratch2 : Ref sig .tc).ty.Contents (Elt F))
  (oq ol : Fin L16.trips → Fin 2 → ℕ)
  (hq : ∀ k a, oq k a + S256x512.size a ≤ S4096x512.size a) (hl : ∀ k a, ol k a + S256x1.size a ≤ S4096x1.size a)
  (eq : ∀ k, oq k = ![256 * k.val, 0]) (el : ∀ k, ol k = ![256 * k.val, 0])
  {hok : L16.OK}
include eq el

theorem wp_set_loop {α : Type} {QQ : α → sProp 𝕄} {kk : Unit → Prog (TpuEff nD τ sig (Elt F) Λ₀ .tc) α} (P : Vec F S256x512 .bf16 → FVec F S256x1 .f32) (R : Vec F S256x512 .bf16 → FVec F S256x512 .f32) :
    held c q o l ⊢ iprop((held c q (glueO fun k => R (rdQ k q)) (glueL fun k => P (rdQ k q)) -∗ wpc c (kk ⟨⟩) QQ)
      -∗ wpc c (Scf.Loop.for L16 hok ⟨⟩ (setBody oq ol hq hl P R) >>= kk) QQ) := by
  have h := Scf.wp_for_bind (M := 𝕄) frame (wpE (defs₀ (F := F)) 𝒱₀ (c : Thread nD τ) none) Set.univ L16.lb L16.ub L16.st hok ⟨⟩ (setBody oq ol hq hl P R)
    (fun k (_ : Unit) => held c q (mixO k (glueO fun k => R (rdQ k q)) o) (mixL k (glueL fun k => P (rdQ k q)) l))
    (fun k _ => wp_set_trip c q o l oq ol hq hl eq el P R k) (kk := kk) (Q := QQ)
  rw [mixO_zero, mixL_zero] at h
  iintro H Hk
  iapply h $$ H
  iintro %acc H
  iapply Hk
  have e : held c q (mixO 16 (glueO fun k => R (rdQ k q)) o) (mixL 16 (glueL fun k => P (rdQ k q)) l) = held c q (glueO fun k => R (rdQ k q)) (glueL fun k => P (rdQ k q)) := by
    rw [mixO_all, mixL_all]
  rw [← e]
  iexact H

theorem wp_add_loop {α : Type} {QQ : α → sProp 𝕄} {kk : Unit → Prog (TpuEff nD τ sig (Elt F) Λ₀ .tc) α} (P : Vec F S256x512 .bf16 → Vec F S256x1 .f32 → FVec F S256x1 .f32) (R : Vec F S256x512 .bf16 → Vec F S256x512 .f32 → FVec F S256x512 .f32) :
    held c q o l ⊢ iprop((held c q (glueO fun k => R (rdQ k q) (rdO k o)) (glueL fun k => P (rdQ k q) (rdL k l)) -∗ wpc c (kk ⟨⟩) QQ)
      -∗ wpc c (Scf.Loop.for L16 hok ⟨⟩ (addBody oq ol hq hl P R) >>= kk) QQ) := by
  have h := Scf.wp_for_bind (M := 𝕄) frame (wpE (defs₀ (F := F)) 𝒱₀ (c : Thread nD τ) none) Set.univ L16.lb L16.ub L16.st hok ⟨⟩ (addBody oq ol hq hl P R)
    (fun k (_ : Unit) => held c q (mixO k (glueO fun k => R (rdQ k q) (rdO k o)) o) (mixL k (glueL fun k => P (rdQ k q) (rdL k l)) l))
    (fun k _ => wp_add_trip c q o l oq ol hq hl eq el P R k) (kk := kk) (Q := QQ)
  rw [mixO_zero, mixL_zero] at h
  iintro H Hk
  iapply h $$ H
  iintro %acc H
  iapply Hk
  have e : held c q (mixO 16 (glueO fun k => R (rdQ k q) (rdO k o)) o) (mixL 16 (glueL fun k => P (rdQ k q) (rdL k l)) l) = held c q (glueO fun k => R (rdQ k q) (rdO k o)) (glueL fun k => P (rdQ k q) (rdL k l)) := by
    rw [mixO_all, mixL_all]
  rw [← e]
  iexact H

/-- A whole adding loop, with names `o'` and `l'` for the arrays that it leaves. -/
theorem wp_add_loop_as (o' : (cc0_stg3_0 : Ref sig .tc).ty.Contents (Elt F)) (l' : (cc0_scratch2 : Ref sig .tc).ty.Contents (Elt F)) {α : Type} {QQ : α → sProp 𝕄} {kk : Unit → Prog (TpuEff nD τ sig (Elt F) Λ₀ .tc) α} (P : Vec F S256x512 .bf16 → Vec F S256x1 .f32 → FVec F S256x1 .f32) (R : Vec F S256x512 .bf16 → Vec F S256x512 .f32 → FVec F S256x512 .f32)
    (ho : o' = glueO fun k => R (rdQ k q) (rdO k o)) (hl' : l' = glueL fun k => P (rdQ k q) (rdL k l)) :
    held c q o l ⊢ iprop((held c q o' l' -∗ wpc c (kk ⟨⟩) QQ)
      -∗ wpc c (Scf.Loop.for L16 hok ⟨⟩ (addBody oq ol hq hl P R) >>= kk) QQ) := by
  subst ho hl'
  exact wp_add_loop c q o l oq ol hq hl eq el P R

theorem wp_end_loop {α : Type} {QQ : α → sProp 𝕄} {kk : Unit → Prog (TpuEff nD τ sig (Elt F) Λ₀ .tc) α} (R : Vec F S256x512 .f32 → Vec F S256x1 .f32 → FVec F S256x512 .f32) :
    held c q o l ⊢ iprop((held c q (glueO fun k => R (rdO k o) (rdL k l)) l -∗ wpc c (kk ⟨⟩) QQ)
      -∗ wpc c (Scf.Loop.for L16 hok ⟨⟩ (endBody oq ol hq hl R) >>= kk) QQ) := by
  have h := Scf.wp_for_bind (M := 𝕄) frame (wpE (defs₀ (F := F)) 𝒱₀ (c : Thread nD τ) none) Set.univ L16.lb L16.ub L16.st hok ⟨⟩ (endBody oq ol hq hl R)
    (fun k (_ : Unit) => held c q (mixO k (glueO fun k => R (rdO k o) (rdL k l)) o) l)
    (fun k _ => wp_end_trip c q o l oq ol hq hl eq el R k) (kk := kk) (Q := QQ)
  rw [mixO_zero] at h
  iintro H Hk
  iapply h $$ H
  iintro %acc H
  iapply Hk
  have e : held c q (mixO 16 (glueO fun k => R (rdO k o) (rdL k l)) o) l = held c q (glueO fun k => R (rdO k o) (rdL k l)) l := by
    rw [mixO_all]
  rw [← e]
  iexact H
end

end Cert.KernelIdealProof

end
-- ==== Proof.KernelIdeal.Starts.lean ====
/-
# `KernelIdeal`: the barrier and the first transfers
-/
module

public import proofs.«01_k».proof.Proof.KernelIdeal.Sweeps

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × CI → ℕ)

/-- The two duties' tokens that starting transfer `i` spends, and the credit and place it is waited for by. -/
def fuel (i : Fin 12) (c : Dev nD) : sProp 𝕄 := iprop(dutyTok ER (sendCell i c) 0 false ∗ dutyTok ER (recvCell i (tgt i c)) 0 false)
def wantR (i : Fin 12) (c : Dev nD) : sProp 𝕄 := iprop(cred (tallyAt (recvCell i c) () N) ∗ atPos ER (recvCell i c) 0 ∅ 0)
def pend (i : Fin 12) (c : Dev nD) : sProp 𝕄 := cred (tallyAt (sendCell i c) () N)
def wantS (i : Fin 12) (c : Dev nD) : sProp 𝕄 := atPos ER (sendCell i c) 0 ∅ 0

theorem wp_part1 (c : Dev nD) {α : Type} {Q : α → sProp 𝕄} {kk : (Σ' (_ : Dev nD) (_ : BitVec 32), BitVec 32) → Prog (TpuEff nD τ sig (Elt F) Λ₀ .tc) α} :
    iprop(records m ρ K ∗ levAts L lv ∗ ow c (O₀ c) ∗ dutyTok ER (barCell (prv c)) 0 true ∗ dutyTok ER (barCell (nxt c)) 0 false
        ∗ (dstAny 0 c ∗ dstAny 1 c ∗ dstAny 2 c ∗ dstAny 3 c ∗ dstAny 8 c ∗ dstAny 9 c)
        ∗ (dstAny 4 c ∗ dstAny 5 c ∗ dstAny 6 c ∗ dstAny 7 c ∗ dstAny 10 c ∗ dstAny 11 c)
        ∗ cred (tallyAt (barCell c) () 2) ∗ atPos ER (barCell c) 0 ∅ 0 ∗ srcP m ρ 0 c ∗ fuel 0 c)
      ⊢ iprop((∀ (v5 v7 : BitVec 32), ((dstAny 4 (prv c) ∗ dstAny 5 (prv c) ∗ dstAny 6 (prv c) ∗ dstAny 7 (prv c) ∗ dstAny 10 (prv c) ∗ dstAny 11 (prv c))
            ∗ (dstAny 1 (nxt c) ∗ dstAny 2 (nxt c) ∗ dstAny 3 (nxt c) ∗ dstAny 8 (nxt c) ∗ dstAny 9 (nxt c))
            ∗ pend 0 c ∗ ow c (oweL c [4, 1, 5, 2, 6, 3, 7, 8, 9, 10, 11]) ∗ semVal (barCell c) 0) -∗ wpc c (kk ⟨c, v5, v7⟩) Q)
          -∗ wpc c (k0_part1 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4 >>= kk) Q) := by
  rw [k0_part1_eq_skeleton]
  unfold k0_part1_skel wpc
  simp only [semSignalWord, semWaitWord, Prog.lift, Prog.bind_op, Prog.bind_ret, Prog.pure_eq_ret, Prog.bind_assoc, wp_deviceId]
  unfold fuel pend
  iintro ⟨#HR, #Hlev, HO, Hb1, Hb2, HdR, HdL, Hcb, Hatb, Hs, Hf1, Hf2⟩ Hk
  iapply (wp_signal_prv m ρ K c _ (Fin.ext (k0_dev1_eq c))) $$ [HO Hb1 HdR]
  · isplitr; · iexact HR
    isplitl [HO]; · iexact HO
    isplitl [Hb1]; · iexact Hb1
    iexact HdR
  iintro HO
  iapply (wp_signal_nxt m ρ K c _ (Fin.ext (k0_dev2_eq c))) $$ [HO Hb2 HdL]
  · isplitr; · iexact HR
    isplitl [HO]; · iexact HO
    isplitl [Hb2]; · iexact Hb2
    iexact HdL
  iintro HO
  iapply (wp_barrier m ρ K c) $$ [HO Hcb Hatb]
  · isplitr; · iexact HR
    isplitr; · iexact Hlev
    isplitl [Hcb]; · iexact Hcb
    isplitl [HO]; · iexact HO
    iexact Hatb
  iintro ⟨HL, HRr, HO, Hz⟩
  unfold barPayL barPayR
  icases HRr with ⟨H0, HRr⟩
  iapply (wp_start m ρ K c 0 [4, 1, 5, 2, 6, 3, 7, 8, 9, 10, 11] _ (Fin.ext (k0_dev3_eq c))) $$ [Hs H0 HO Hf1 Hf2]
  · isplitr; · iexact HR
    isplitl [Hs]; · iexact Hs
    isplitl [H0]; · iexact H0
    isplitl [HO]; · iexact HO
    isplitl [Hf1]; · iexact Hf1
    iexact Hf2
  iintro ⟨Hp, HO⟩
  iapply Hk
  isplitl [HL]; · iexact HL
  isplitl [HRr]; · iexact HRr
  isplitl [Hp]; · iexact Hp
  isplitl [HO]; · iexact HO
  iexact Hz

end Cert.KernelIdealProof

end
-- ==== Proof.KernelIdeal.Chain.lean ====
/-
# `KernelIdeal`: what is computed
-/
module

public import proofs.«01_k».proof.Proof.KernelIdeal.Starts

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The loaded pieces and the arrays after each loop -/

abbrev slotR (s o : ℕ) (h : ∀ a, (![s, o, 0] : Fin 3 → ℕ) a + S1x2048x512.size a ≤ S3x4096x512.size a) : Rect S3x4096x512 :=
  Rect.unit (s := S3x4096x512) ![s, o, 0] S1x2048x512.size h

def k00 (c : Dev nD) : Vec F S1x2048x512 .bf16 := ckM.view.readAt (Elt F) (slotR 0 0 inb_S3x4096x512_S1x2048x512_0_0_0).toLoadRect (CK m ρ c)
def k01 (c : Dev nD) : Vec F S1x2048x512 .bf16 := ckM.view.readAt (Elt F) (slotR 0 2048 inb_S3x4096x512_S1x2048x512_0_2048_0).toLoadRect (CK m ρ c)
def k10 (c : Dev nD) : Vec F S1x2048x512 .bf16 := ckM.view.readAt (Elt F) (slotR 1 0 inb_S3x4096x512_S1x2048x512_1_0_0).toLoadRect (CK m ρ c)
def k11 (c : Dev nD) : Vec F S1x2048x512 .bf16 := ckM.view.readAt (Elt F) (slotR 1 2048 inb_S3x4096x512_S1x2048x512_1_2048_0).toLoadRect (CK m ρ c)
def k2 (c : Dev nD) : Vec F S1x4096x512 .bf16 := ckM.view.readAt (Elt F) (Rect.unit (s := S3x4096x512) ![2, 0, 0] S1x4096x512.size inb_S3x4096x512_S1x4096x512_2_0_0).toLoadRect (CK m ρ c)
def v00 (c : Dev nD) : Vec F S1x2048x512 .bf16 := cvM.view.readAt (Elt F) (slotR 0 0 inb_S3x4096x512_S1x2048x512_0_0_0).toLoadRect (CV m ρ c)
def v01 (c : Dev nD) : Vec F S1x2048x512 .bf16 := cvM.view.readAt (Elt F) (slotR 0 2048 inb_S3x4096x512_S1x2048x512_0_2048_0).toLoadRect (CV m ρ c)
def v10 (c : Dev nD) : Vec F S1x2048x512 .bf16 := cvM.view.readAt (Elt F) (slotR 1 0 inb_S3x4096x512_S1x2048x512_1_0_0).toLoadRect (CV m ρ c)
def v11 (c : Dev nD) : Vec F S1x2048x512 .bf16 := cvM.view.readAt (Elt F) (slotR 1 2048 inb_S3x4096x512_S1x2048x512_1_2048_0).toLoadRect (CV m ρ c)
def v2 (c : Dev nD) : Vec F S1x4096x512 .bf16 := cvM.view.readAt (Elt F) (Rect.unit (s := S3x4096x512) ![2, 0, 0] S1x4096x512.size inb_S3x4096x512_S1x4096x512_2_0_0).toLoadRect (CV m ρ c)

/-- The row sums and the accumulator of device `c` after the loop over its own keys, -/
def l1 (c : Dev nD) := glueL fun k => k0_pay3 (F := F) (kst m ρ c) (rdQ k (qst m ρ c))
def o1 (c : Dev nD) := glueO fun k => k0_pay2 (F := F) (kst m ρ c) (vst m ρ c) (rdQ k (qst m ρ c))
/-- over the first half of the previous device's, -/
def l2 (c : Dev nD) := glueL fun k => k0_pay7 (F := F) (k0_pay4 (k00 m ρ c)) (rdQ k (qst m ρ c)) (rdL k (l1 m ρ c))
def o2 (c : Dev nD) := glueO fun k => k0_pay8 (F := F) (k0_pay4 (k00 m ρ c)) (k0_pay5 (v00 m ρ c)) (rdQ k (qst m ρ c)) (rdO k (o1 m ρ c))
/-- over the second half of the next device's, -/
def l3 (c : Dev nD) := glueL fun k => k0_pay10 (F := F) (k11 m ρ c) (rdQ k (qst m ρ c)) (rdL k (l2 m ρ c))
def o3 (c : Dev nD) := glueO fun k => k0_pay11 (F := F) (k11 m ρ c) (v11 m ρ c) (rdQ k (qst m ρ c)) (rdO k (o2 m ρ c))
/-- over the second half of the previous device's, -/
def l4 (c : Dev nD) := glueL fun k => k0_pay13 (F := F) (k01 m ρ c) (rdQ k (qst m ρ c)) (rdL k (l3 m ρ c))
def o4 (c : Dev nD) := glueO fun k => k0_pay14 (F := F) (k01 m ρ c) (v01 m ρ c) (rdQ k (qst m ρ c)) (rdO k (o3 m ρ c))
/-- over the first half of the next device's, -/
def l5 (c : Dev nD) := glueL fun k => k0_pay18 (F := F) (k0_pay15 (k10 m ρ c)) (rdQ k (qst m ρ c)) (rdL k (l4 m ρ c))
def o5 (c : Dev nD) := glueO fun k => k0_pay19 (F := F) (k0_pay15 (k10 m ρ c)) (k0_pay16 (v10 m ρ c)) (rdQ k (qst m ρ c)) (rdO k (o4 m ρ c))
/-- over the opposite device's, -/
def l6 (c : Dev nD) := glueL fun k => k0_pay21 (F := F) (k2 m ρ c) (rdQ k (qst m ρ c)) (rdL k (l5 m ρ c))
def o6 (c : Dev nD) := glueO fun k => k0_pay22 (F := F) (k2 m ρ c) (v2 m ρ c) (rdQ k (qst m ρ c)) (rdO k (o5 m ρ c))
/-- and the result: each row divided by its sum. -/
def outAt (c : Dev nD) := glueO fun k => k0_pay23 (F := F) (rdO k (o6 m ρ c)) (rdL k (l6 m ρ c))

/-! ## Loads -/

theorem sq_sub (M : Memref sig .tc .vmem S3x4096x512 .bf16) (r : Rect S3x4096x512) {h} {hs} :
    (M.access r : View sig .tc _ _ _).set ⊆ ((M.slice r h).squeeze S2048x512 hs).view.set := by
  rw [Memref.set_view_squeeze]

theorem at_zero : (![0, 0] : Fin 2 → ℕ) = fun _ => 0 := funext fun a => by fin_cases a <;> rfl

theorem read_kM (c : Dev nD) {h} : kM.view.readAt (Elt F) (Rect.unit (s := S4096x512) ![0, 0] S4096x512.size h).toLoadRect (kst m ρ c) = kst m ρ c :=
  Memref.readAt_unit_zero (Elt F) cc0_stg1_0 at_zero _ _
theorem read_vM (c : Dev nD) {h} : vM.view.readAt (Elt F) (Rect.unit (s := S4096x512) ![0, 0] S4096x512.size h).toLoadRect (vst m ρ c) = vst m ρ c :=
  Memref.readAt_unit_zero (Elt F) cc0_stg2_0 at_zero _ _

theorem slot2_k (h) : (ckM.access (Rect.unit (s := S3x4096x512) ![2, 0, 0] S1x4096x512.size h) : View sig .tc _ _ _).set ⊆ piece ckM 4 ∪ piece ckM 5 := by
  intro (j : S3x4096x512.Idx) hj
  have hj' : j ∈ (Rect.unit (s := S3x4096x512) ![2, 0, 0] S1x4096x512.size h).set := (View.set_slice_whole cc0_scratch0 _) ▸ hj
  rw [Rect.mem_set_unit] at hj'
  have h0 : 2 ≤ (j 0).val ∧ (j 0).val < 2 + 1 := hj' 0
  have h1 : (j 1).val < 4096 := (j 1).isLt
  rw [Finset.mem_union, mem_piece_k, mem_piece_k]
  simp only [pSlot, pRow]
  omega
theorem slot2_v (h) : (cvM.access (Rect.unit (s := S3x4096x512) ![2, 0, 0] S1x4096x512.size h) : View sig .tc _ _ _).set ⊆ piece cvM 4 ∪ piece cvM 5 := by
  intro (j : S3x4096x512.Idx) hj
  have hj' : j ∈ (Rect.unit (s := S3x4096x512) ![2, 0, 0] S1x4096x512.size h).set := (View.set_slice_whole cc0_scratch1 _) ▸ hj
  rw [Rect.mem_set_unit] at hj'
  have h0 : 2 ≤ (j 0).val ∧ (j 0).val < 2 + 1 := hj' 0
  have h1 : (j 1).val < 4096 := (j 1).isLt
  rw [Finset.mem_union, mem_piece_v, mem_piece_v]
  simp only [pSlot, pRow]
  omega

/-- Both halves of the last slot, held together. -/
theorem join_k (c : Dev nD) : iprop(dstP m ρ fullShare 8 c ∗ dstP m ρ fullShare 10 c)
    = (((c : Thread nD τ).loc cc0_scratch0) ↦[piece ckM 4 ∪ piece ckM 5]{fullShare} CK m ρ c : sProp 𝕄) := by
  have h : Disjoint (piece ckM 4) (piece ckM 5) := Finset.disjoint_left.mpr fun j h h' => absurd (pieces_apart j 4 5 ((mem_piece_k 4 j).mp h) ((mem_piece_k 5 j).mp h')) (by decide)
  exact (BI.equiv_iff.mp ⟨(pointsTo_union h).1, (pointsTo_union h).2⟩).symm
theorem join_v (c : Dev nD) : iprop(dstP m ρ fullShare 9 c ∗ dstP m ρ fullShare 11 c)
    = (((c : Thread nD τ).loc cc0_scratch1) ↦[piece cvM 4 ∪ piece cvM 5]{fullShare} CV m ρ c : sProp 𝕄) := by
  have h : Disjoint (piece cvM 4) (piece cvM 5) := Finset.disjoint_left.mpr fun j h h' => absurd (pieces_apart j 4 5 ((mem_piece_v 4 j).mp h) ((mem_piece_v 5 j).mp h')) (by decide)
  exact (BI.equiv_iff.mp ⟨(pointsTo_union h).1, (pointsTo_union h).2⟩).symm

/-! ## The transfers' semaphores and targets as the program names them -/

theorem credit_any (d : Memref sig .tc .vmem S2048x512 .bf16) : d.view.dmaCredit = N := rfl

theorem send_0 : ((cc0_scratch3.slice (Rect.unit (s := S12) ![0] S1.size inb_S12_S1_0)).squeeze S_ squeezes_S1_S_).sem = sendSem 0 := rfl
theorem recv_0 : ((cc0_scratch4.slice (Rect.unit (s := S12) ![0] S1.size inb_S12_S1_0)).squeeze S_ squeezes_S1_S_).sem = recvSem 0 := rfl
theorem send_1 : ((cc0_scratch3.slice (Rect.unit (s := S12) ![1] S1.size inb_S12_S1_1)).squeeze S_ squeezes_S1_S_).sem = sendSem 1 := rfl
theorem recv_1 : ((cc0_scratch4.slice (Rect.unit (s := S12) ![1] S1.size inb_S12_S1_1)).squeeze S_ squeezes_S1_S_).sem = recvSem 1 := rfl
theorem send_2 : ((cc0_scratch3.slice (Rect.unit (s := S12) ![2] S1.size inb_S12_S1_2)).squeeze S_ squeezes_S1_S_).sem = sendSem 2 := rfl
theorem recv_2 : ((cc0_scratch4.slice (Rect.unit (s := S12) ![2] S1.size inb_S12_S1_2)).squeeze S_ squeezes_S1_S_).sem = recvSem 2 := rfl
theorem send_3 : ((cc0_scratch3.slice (Rect.unit (s := S12) ![3] S1.size inb_S12_S1_3)).squeeze S_ squeezes_S1_S_).sem = sendSem 3 := rfl
theorem recv_3 : ((cc0_scratch4.slice (Rect.unit (s := S12) ![3] S1.size inb_S12_S1_3)).squeeze S_ squeezes_S1_S_).sem = recvSem 3 := rfl
theorem send_4 : ((cc0_scratch3.slice (Rect.unit (s := S12) ![4] S1.size inb_S12_S1_4)).squeeze S_ squeezes_S1_S_).sem = sendSem 4 := rfl
theorem recv_4 : ((cc0_scratch4.slice (Rect.unit (s := S12) ![4] S1.size inb_S12_S1_4)).squeeze S_ squeezes_S1_S_).sem = recvSem 4 := rfl
theorem send_5 : ((cc0_scratch3.slice (Rect.unit (s := S12) ![5] S1.size inb_S12_S1_5)).squeeze S_ squeezes_S1_S_).sem = sendSem 5 := rfl
theorem recv_5 : ((cc0_scratch4.slice (Rect.unit (s := S12) ![5] S1.size inb_S12_S1_5)).squeeze S_ squeezes_S1_S_).sem = recvSem 5 := rfl
theorem send_6 : ((cc0_scratch3.slice (Rect.unit (s := S12) ![6] S1.size inb_S12_S1_6)).squeeze S_ squeezes_S1_S_).sem = sendSem 6 := rfl
theorem recv_6 : ((cc0_scratch4.slice (Rect.unit (s := S12) ![6] S1.size inb_S12_S1_6)).squeeze S_ squeezes_S1_S_).sem = recvSem 6 := rfl
theorem send_7 : ((cc0_scratch3.slice (Rect.unit (s := S12) ![7] S1.size inb_S12_S1_7)).squeeze S_ squeezes_S1_S_).sem = sendSem 7 := rfl
theorem recv_7 : ((cc0_scratch4.slice (Rect.unit (s := S12) ![7] S1.size inb_S12_S1_7)).squeeze S_ squeezes_S1_S_).sem = recvSem 7 := rfl
theorem send_8 : ((cc0_scratch3.slice (Rect.unit (s := S12) ![8] S1.size inb_S12_S1_8)).squeeze S_ squeezes_S1_S_).sem = sendSem 8 := rfl
theorem recv_8 : ((cc0_scratch4.slice (Rect.unit (s := S12) ![8] S1.size inb_S12_S1_8)).squeeze S_ squeezes_S1_S_).sem = recvSem 8 := rfl
theorem send_9 : ((cc0_scratch3.slice (Rect.unit (s := S12) ![9] S1.size inb_S12_S1_9)).squeeze S_ squeezes_S1_S_).sem = sendSem 9 := rfl
theorem recv_9 : ((cc0_scratch4.slice (Rect.unit (s := S12) ![9] S1.size inb_S12_S1_9)).squeeze S_ squeezes_S1_S_).sem = recvSem 9 := rfl
theorem send_10 : ((cc0_scratch3.slice (Rect.unit (s := S12) ![10] S1.size inb_S12_S1_10)).squeeze S_ squeezes_S1_S_).sem = sendSem 10 := rfl
theorem recv_10 : ((cc0_scratch4.slice (Rect.unit (s := S12) ![10] S1.size inb_S12_S1_10)).squeeze S_ squeezes_S1_S_).sem = recvSem 10 := rfl
theorem send_11 : ((cc0_scratch3.slice (Rect.unit (s := S12) ![11] S1.size inb_S12_S1_11)).squeeze S_ squeezes_S1_S_).sem = sendSem 11 := rfl
theorem recv_11 : ((cc0_scratch4.slice (Rect.unit (s := S12) ![11] S1.size inb_S12_S1_11)).squeeze S_ squeezes_S1_S_).sem = recvSem 11 := rfl

theorem dev_0 (c : Dev nD) : (⟨k0_dev3 c, k0_dev3_lt c⟩ : Dev nD) = tgt 0 c := Fin.ext (k0_dev3_eq c)
theorem dev_4 (c : Dev nD) : (⟨k0_dev4 c, k0_dev4_lt c⟩ : Dev nD) = tgt 4 c := Fin.ext (k0_dev4_eq c)
theorem dev_1 (c : Dev nD) : (⟨k0_dev5 c, k0_dev5_lt c⟩ : Dev nD) = tgt 1 c := Fin.ext (k0_dev5_eq c)
theorem dev_5 (c : Dev nD) : (⟨k0_dev6 c, k0_dev6_lt c⟩ : Dev nD) = tgt 5 c := Fin.ext (k0_dev6_eq c)
theorem dev_2 (c : Dev nD) : (⟨k0_dev7 c, k0_dev7_lt c⟩ : Dev nD) = tgt 2 c := Fin.ext (k0_dev7_eq c)
theorem dev_6 (c : Dev nD) : (⟨k0_dev8 c, k0_dev8_lt c⟩ : Dev nD) = tgt 6 c := Fin.ext (k0_dev8_eq c)
theorem dev_3 (c : Dev nD) : (⟨k0_dev9 c, k0_dev9_lt c⟩ : Dev nD) = tgt 3 c := Fin.ext (k0_dev9_eq c)
theorem dev_7 (c : Dev nD) : (⟨k0_dev10 c, k0_dev10_lt c⟩ : Dev nD) = tgt 7 c := Fin.ext (k0_dev10_eq c)
theorem dev_8 (c : Dev nD) : (⟨k0_dev11 c, k0_dev11_lt c⟩ : Dev nD) = tgt 8 c := Fin.ext (k0_dev11_eq c)
theorem dev_9 (c : Dev nD) : (⟨k0_dev12 c, k0_dev12_lt c⟩ : Dev nD) = tgt 9 c := Fin.ext (k0_dev12_eq c)
theorem dev_10 (c : Dev nD) : (⟨k0_dev13 c, k0_dev13_lt c⟩ : Dev nD) = tgt 10 c := Fin.ext (k0_dev13_eq c)
theorem dev_11 (c : Dev nD) : (⟨k0_dev14 c, k0_dev14_lt c⟩ : Dev nD) = tgt 11 c := Fin.ext (k0_dev14_eq c)

/-- A load of keys, or of values, that have landed. -/
theorem wp_ld_k (c : Dev nD) (P : sProp 𝕄) (q : PosShare TreeShare) (S : Finset (Idx ((c : Thread nD τ).loc cc0_scratch0)))
    (hP : P = (((c : Thread nD τ).loc cc0_scratch0) ↦[S]{q} CK m ρ c)) (r : Rect S3x4096x512) {hl : ckM.view.LoadsAt r.toLoadRect}
    (hS : (ckM.access r : View sig .tc _ _ _).set ⊆ S)
    {α : Type} {Q : α → sProp 𝕄} {k : (r.shape.Idx → Elt F .bf16) → Prog (TpuEff nD τ sig (Elt F) Λ₀ .tc) α} :
    P ⊢ iprop((P -∗ wpc c (k (ckM.view.readAt (Elt F) r.toLoadRect (CK m ρ c))) Q) -∗ wpc c (.op (.load ckM r.toLoadRect hl) k) Q) := by
  subst hP
  have hS' : ckM.view.setOn r.toLoadRect.set ⊆ S := by rwa [View.set_slice] at hS
  exact wp_load 𝒱₀ (c : Thread nD τ) none Set.univ (m := ckM) hS'
theorem wp_ld_v (c : Dev nD) (P : sProp 𝕄) (q : PosShare TreeShare) (S : Finset (Idx ((c : Thread nD τ).loc cc0_scratch1)))
    (hP : P = (((c : Thread nD τ).loc cc0_scratch1) ↦[S]{q} CV m ρ c)) (r : Rect S3x4096x512) {hl : cvM.view.LoadsAt r.toLoadRect}
    (hS : (cvM.access r : View sig .tc _ _ _).set ⊆ S)
    {α : Type} {Q : α → sProp 𝕄} {k : (r.shape.Idx → Elt F .bf16) → Prog (TpuEff nD τ sig (Elt F) Λ₀ .tc) α} :
    P ⊢ iprop((P -∗ wpc c (k (cvM.view.readAt (Elt F) r.toLoadRect (CV m ρ c))) Q) -∗ wpc c (.op (.load cvM r.toLoadRect hl) k) Q) := by
  subst hP
  have hS' : cvM.view.setOn r.toLoadRect.set ⊆ S := by rwa [View.set_slice] at hS
  exact wp_load 𝒱₀ (c : Thread nD τ) none Set.univ (m := cvM) hS'

/-! ## The rules of the transfers, bundled -/

variable (K : Dev nD × CI → ℕ)

/-- All that starting transfer `i` takes. -/
def ready (i : Fin 12) (c : Dev nD) : sProp 𝕄 := iprop(srcP m ρ i c ∗ dstAny i (tgt i c) ∗ fuel i c)

theorem wp_go (c : Dev nD) (i : Fin 12) (l : List (Fin 12)) (n : Dev nD) (hn : n = tgt i c)
    {hsc : (dstM i).view.ref.isScScratch = false}
    {hsrc : (srcM i).view.WordExact} {hdst : (dstM i).view.WordExact}
    {hsem : DmaTarget.Typed .vmem (.dma (recvSem i)) (.remote (Dev.tc n : Thread nD τ) (dstM i) (.dma (sendSem i)) hsc)}
    {α : Type} {Q : α → sProp 𝕄} {k : PUnit → Prog (TpuEff nD τ sig (Elt F) Λ₀ .tc) α} :
    iprop(records m ρ K ∗ ow c (oweL c (i :: l)) ∗ ready m ρ i c)
      ⊢ iprop(((pend i c ∗ ow c (oweL c l)) -∗ wpc c (k ⟨⟩) Q)
          -∗ wpc c (.op (.enqueueDma (srcM i) (.remote (Dev.tc n : Thread nD τ) (dstM i) (.dma (sendSem i)) hsc) (.dma (recvSem i)) hsrc hdst hsem) k) Q) := by
  unfold ready fuel pend
  iintro ⟨#HR, HO, Hs, Hd, Hf1, Hf2⟩ Hk
  iapply (wp_start m ρ K c i l n hn) $$ [Hs Hd HO Hf1 Hf2]
  · isplitr; · iexact HR
    isplitl [Hs]; · iexact Hs
    isplitl [Hd]; · iexact Hd
    isplitl [HO]; · iexact HO
    isplitl [Hf1]; · iexact Hf1
    iexact Hf2
  iexact Hk

theorem wp_got (c : Dev nD) (i : Fin 12) (l : List (Fin 12)) (hl : ∀ j ∈ l, rlev i < rlev j)
    {src dst : Memref sig .tc .vmem S2048x512 .bf16} {hsrc : src.view.WordExact} {hdst : dst.view.WordExact}
    {α : Type} {Q : α → sProp 𝕄} {k : PUnit → Prog (TpuEff nD τ sig (Elt F) Λ₀ .tc) α} :
    iprop(records m ρ K ∗ levAts L lv ∗ ow c (oweL c l) ∗ wantR i c)
      ⊢ iprop(((dstP m ρ fullShare i c ∗ ow c (oweL c l) ∗ semVal (recvCell i c) 0) -∗ wpc c (k ⟨⟩) Q)
          -∗ wpc c (.op (.waitDma2 (recvSem i) src dst hsrc hdst) k) Q) := by
  unfold wantR
  iintro ⟨#HR, #Hlev, HO, Hc, Ha⟩ Hk
  iapply (wp_landed m ρ K c i l hl (credit_any _)) $$ [Hc HO Ha]
  · isplitr; · iexact HR
    isplitr; · iexact Hlev
    isplitl [Hc]; · iexact Hc
    isplitl [HO]; · iexact HO
    iexact Ha
  iexact Hk

theorem wp_back (c : Dev nD) (i : Fin 12)
    {src dst : Memref sig .tc .vmem S2048x512 .bf16} {hsrc : src.view.WordExact} {hdst : dst.view.WordExact}
    {α : Type} {Q : α → sProp 𝕄} {k : PUnit → Prog (TpuEff nD τ sig (Elt F) Λ₀ .tc) α} :
    iprop(records m ρ K ∗ ow c (oweL c []) ∗ pend i c ∗ wantS i c)
      ⊢ iprop(((srcP m ρ i c ∗ ow c (oweL c []) ∗ semVal (sendCell i c) 0) -∗ wpc c (k ⟨⟩) Q)
          -∗ wpc c (.op (.waitDma2 (sendSem i) src dst hsrc hdst) k) Q) := by
  unfold pend wantS
  iintro ⟨#HR, HO, Hc, Ha⟩ Hk
  iapply (wp_sent m ρ K c i (credit_any _)) $$ [Hc HO Ha]
  · isplitr; · iexact HR
    isplitl [Hc]; · iexact Hc
    isplitl [HO]; · iexact HO
    iexact Ha
  iexact Hk

end Cert.KernelIdealProof

end
-- ==== Proof.KernelIdeal.Parts2.lean ====
/-
# `KernelIdeal`: the program's parts, second half
-/
module

public import proofs.«01_k».proof.Proof.KernelIdeal.Chain

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × CI → ℕ)

/-- Two landed halves are attended to, transfers 2 and 3 have landed. -/
theorem wp_part7 (c : Dev nD) (v7 : BitVec 32) {α : Type} {Q : α → sProp 𝕄} {kk : Vec F S1x2048x512 .bf16 → Prog (TpuEff nD τ sig (Elt F) Λ₀ .tc) α} :
    iprop(records m ρ K ∗ levAts L lv ∗ ow c (oweL c []) ∗ held c (qst m ρ c) (o1 m ρ c) (l1 m ρ c) ∗ dstP m ρ fullShare.left 4 c ∗ dstP m ρ fullShare.left 5 c ∗ wantR 2 c ∗ wantR 3 c)
      ⊢ iprop(((ow c (oweL c []) ∗ held c (qst m ρ c) (o3 m ρ c) (l3 m ρ c) ∗ dstP m ρ fullShare.left 4 c ∗ dstP m ρ fullShare.left 5 c ∗ dstP m ρ fullShare 2 c ∗ semVal (recvCell 2 c) 0 ∗ dstP m ρ fullShare 3 c ∗ semVal (recvCell 3 c) 0) -∗ wpc c (kk (k01 m ρ c)) Q)
          -∗ wpc c (k0_part7 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4 v7 (k0_pay4 (k00 m ρ c)) (k0_pay5 (v00 m ρ c)) >>= kk) Q) := by
  rw [k0_part7_eq_skeleton]
  unfold k0_part7_skel wpc
  simp -proj only [Prog.lift, Prog.bind_op, Prog.bind_ret, Prog.pure_eq_ret, Prog.bind_assoc, recv_2, recv_3]
  iintro ⟨#HR, #Hlev, HO, Hh, Hd4, Hd5, Hw2, Hw3⟩ Hk
  iapply (wp_add_loop_as c (qst m ρ c) (o1 m ρ c) (l1 m ρ c) k0_off3 k0_off4 k0_off3_inb k0_off4_inb k0_off3_eq k0_off4_eq (o2 m ρ c) (l2 m ρ c) (k0_pay7 (k0_pay4 (k00 m ρ c))) (k0_pay8 (k0_pay4 (k00 m ρ c)) (k0_pay5 (v00 m ρ c))) rfl rfl) $$ Hh
  iintro Hh
  iapply (wp_ld_k m ρ c (dstP m ρ fullShare.left 4 c) fullShare.left (s1b ckM).view.set rfl (slotR 1 2048 inb_S3x4096x512_S1x2048x512_1_2048_0) (sq_sub _ _)) $$ Hd4
  iintro Hd4
  iapply (wp_ld_v m ρ c (dstP m ρ fullShare.left 5 c) fullShare.left (s1b cvM).view.set rfl (slotR 1 2048 inb_S3x4096x512_S1x2048x512_1_2048_0) (sq_sub _ _)) $$ Hd5
  iintro Hd5
  iapply (wp_add_loop_as c (qst m ρ c) (o2 m ρ c) (l2 m ρ c) k0_off5 k0_off6 k0_off5_inb k0_off6_inb k0_off5_eq k0_off6_eq (o3 m ρ c) (l3 m ρ c) (k0_pay10 (k11 m ρ c)) (k0_pay11 (k11 m ρ c) (v11 m ρ c)) rfl rfl) $$ Hh
  iintro Hh
  iapply (wp_got m ρ K c 2 [] (by decide)) $$ [HO Hw2]
  · isplitr; · iexact HR
    isplitr; · iexact Hlev
    isplitl [HO]; · iexact HO
    iexact Hw2
  iintro ⟨Hd2, HO, Hz2⟩
  iapply (wp_got m ρ K c 3 [] (by decide)) $$ [HO Hw3]
  · isplitr; · iexact HR
    isplitr; · iexact Hlev
    isplitl [HO]; · iexact HO
    iexact Hw3
  iintro ⟨Hd3, HO, Hz3⟩
  iapply (wp_ld_k m ρ c (dstP m ρ fullShare 2 c) fullShare (s0b ckM).view.set rfl (slotR 0 2048 inb_S3x4096x512_S1x2048x512_0_2048_0) (sq_sub _ _)) $$ Hd2
  iintro Hd2
  iapply Hk
  isplitl [HO]; · iexact HO
  isplitl [Hh]; · iexact Hh
  isplitl [Hd4]; · iexact Hd4
  isplitl [Hd5]; · iexact Hd5
  isplitl [Hd2]; · iexact Hd2
  isplitl [Hz2]; · iexact Hz2
  isplitl [Hd3]; · iexact Hd3
  iexact Hz3

/-- The third landed half is attended to, transfers 6 and 7 have landed. -/
theorem wp_part8 (c : Dev nD) (v5 : BitVec 32) {α : Type} {Q : α → sProp 𝕄} {kk : (Σ' (_ : FVec F S2048x512 .bf16) (_ : FVec F S2048x512 .bf16) (_ : BitVec 32), BitVec 32) → Prog (TpuEff nD τ sig (Elt F) Λ₀ .tc) α} :
    iprop(records m ρ K ∗ levAts L lv ∗ ow c (oweL c []) ∗ held c (qst m ρ c) (o3 m ρ c) (l3 m ρ c) ∗ dstP m ρ fullShare 3 c ∗ wantR 6 c ∗ wantR 7 c)
      ⊢ iprop(((ow c (oweL c []) ∗ held c (qst m ρ c) (o4 m ρ c) (l4 m ρ c) ∗ dstP m ρ fullShare 3 c ∗ dstP m ρ fullShare 6 c ∗ semVal (recvCell 6 c) 0 ∗ dstP m ρ fullShare 7 c ∗ semVal (recvCell 7 c) 0) -∗ wpc c (kk ⟨k0_pay15 (k10 m ρ c), k0_pay16 (v10 m ρ c), 0#32, 1#32⟩) Q)
          -∗ wpc c (k0_part8 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4 v5 (k01 m ρ c) >>= kk) Q) := by
  rw [k0_part8_eq_skeleton]
  unfold k0_part8_skel wpc
  simp -proj only [Prog.lift, Prog.bind_op, Prog.bind_ret, Prog.pure_eq_ret, Prog.bind_assoc, recv_6, recv_7]
  iintro ⟨#HR, #Hlev, HO, Hh, Hd3, Hw6, Hw7⟩ Hk
  iapply (wp_ld_v m ρ c (dstP m ρ fullShare 3 c) fullShare (s0b cvM).view.set rfl (slotR 0 2048 inb_S3x4096x512_S1x2048x512_0_2048_0) (sq_sub _ _)) $$ Hd3
  iintro Hd3
  iapply (wp_add_loop_as c (qst m ρ c) (o3 m ρ c) (l3 m ρ c) k0_off7 k0_off8 k0_off7_inb k0_off8_inb k0_off7_eq k0_off8_eq (o4 m ρ c) (l4 m ρ c) (k0_pay13 (k01 m ρ c)) (k0_pay14 (k01 m ρ c) (v01 m ρ c)) rfl rfl) $$ Hh
  iintro Hh
  iapply (wp_got m ρ K c 6 [] (by decide)) $$ [HO Hw6]
  · isplitr; · iexact HR
    isplitr; · iexact Hlev
    isplitl [HO]; · iexact HO
    iexact Hw6
  iintro ⟨Hd6, HO, Hz6⟩
  iapply (wp_got m ρ K c 7 [] (by decide)) $$ [HO Hw7]
  · isplitr; · iexact HR
    isplitr; · iexact Hlev
    isplitl [HO]; · iexact HO
    iexact Hw7
  iintro ⟨Hd7, HO, Hz7⟩
  iapply (wp_ld_k m ρ c (dstP m ρ fullShare 6 c) fullShare (s1a ckM).view.set rfl (slotR 1 0 inb_S3x4096x512_S1x2048x512_1_0_0) (sq_sub _ _)) $$ Hd6
  iintro Hd6
  iapply (wp_ld_v m ρ c (dstP m ρ fullShare 7 c) fullShare (s1a cvM).view.set rfl (slotR 1 0 inb_S3x4096x512_S1x2048x512_1_0_0) (sq_sub _ _)) $$ Hd7
  iintro Hd7
  iapply Hk
  isplitl [HO]; · iexact HO
  isplitl [Hh]; · iexact Hh
  isplitl [Hd3]; · iexact Hd3
  isplitl [Hd6]; · iexact Hd6
  isplitl [Hz6]; · iexact Hz6
  isplitl [Hd7]; · iexact Hd7
  iexact Hz7

/-- The fourth landed half is attended to, transfers 8, 9 and 10 have landed. -/
theorem wp_part9 (c : Dev nD) (v5 v7 w1 w2 : BitVec 32) {α : Type} {Q : α → sProp 𝕄} {kk : PUnit → Prog (TpuEff nD τ sig (Elt F) Λ₀ .tc) α} :
    iprop(records m ρ K ∗ levAts L lv ∗ ow c (oweL c []) ∗ held c (qst m ρ c) (o4 m ρ c) (l4 m ρ c) ∗ wantR 8 c ∗ wantR 9 c ∗ wantR 10 c)
      ⊢ iprop(((ow c (oweL c []) ∗ held c (qst m ρ c) (o5 m ρ c) (l5 m ρ c) ∗ dstP m ρ fullShare 8 c ∗ semVal (recvCell 8 c) 0 ∗ dstP m ρ fullShare 9 c ∗ semVal (recvCell 9 c) 0 ∗ dstP m ρ fullShare 10 c ∗ semVal (recvCell 10 c) 0) -∗ wpc c (kk ⟨⟩) Q)
          -∗ wpc c (k0_part9 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4 v5 v7 (k0_pay15 (k10 m ρ c)) (k0_pay16 (v10 m ρ c)) w1 w2 >>= kk) Q) := by
  rw [k0_part9_eq_skeleton]
  unfold k0_part9_skel wpc
  simp -proj only [Prog.lift, Prog.bind_op, Prog.bind_ret, Prog.pure_eq_ret, Prog.bind_assoc, recv_8, recv_9, recv_10]
  iintro ⟨#HR, #Hlev, HO, Hh, Hw8, Hw9, Hw10⟩ Hk
  iapply (wp_add_loop_as c (qst m ρ c) (o4 m ρ c) (l4 m ρ c) k0_off9 k0_off10 k0_off9_inb k0_off10_inb k0_off9_eq k0_off10_eq (o5 m ρ c) (l5 m ρ c) (k0_pay18 (k0_pay15 (k10 m ρ c))) (k0_pay19 (k0_pay15 (k10 m ρ c)) (k0_pay16 (v10 m ρ c))) rfl rfl) $$ Hh
  iintro Hh
  iapply (wp_got m ρ K c 8 [] (by decide)) $$ [HO Hw8]
  · isplitr; · iexact HR
    isplitr; · iexact Hlev
    isplitl [HO]; · iexact HO
    iexact Hw8
  iintro ⟨Hd8, HO, Hz8⟩
  iapply (wp_got m ρ K c 9 [] (by decide)) $$ [HO Hw9]
  · isplitr; · iexact HR
    isplitr; · iexact Hlev
    isplitl [HO]; · iexact HO
    iexact Hw9
  iintro ⟨Hd9, HO, Hz9⟩
  iapply (wp_got m ρ K c 10 [] (by decide)) $$ [HO Hw10]
  · isplitr; · iexact HR
    isplitr; · iexact Hlev
    isplitl [HO]; · iexact HO
    iexact Hw10
  iintro ⟨Hd10, HO, Hz10⟩
  iapply Hk
  isplitl [HO]; · iexact HO
  isplitl [Hh]; · iexact Hh
  isplitl [Hd8]; · iexact Hd8
  isplitl [Hz8]; · iexact Hz8
  isplitl [Hd9]; · iexact Hd9
  isplitl [Hz9]; · iexact Hz9
  isplitl [Hd10]; · iexact Hd10
  iexact Hz10

/-- Transfer 11 has landed, the last slot is attended to, the rows are divided by their sums, transfer 0 has left. -/
theorem wp_part10 (c : Dev nD) (v5 : BitVec 32) {α : Type} {Q : α → sProp 𝕄} {kk : PUnit → Prog (TpuEff nD τ sig (Elt F) Λ₀ .tc) α} :
    iprop(records m ρ K ∗ levAts L lv ∗ ow c (oweL c []) ∗ held c (qst m ρ c) (o5 m ρ c) (l5 m ρ c) ∗ wantR 11 c ∗ dstP m ρ fullShare 8 c ∗ dstP m ρ fullShare 9 c ∗ dstP m ρ fullShare 10 c ∗ pend 0 c ∗ wantS 0 c)
      ⊢ iprop(((ow c (oweL c []) ∗ held c (qst m ρ c) (outAt m ρ c) (l6 m ρ c) ∗ dstP m ρ fullShare 8 c ∗ dstP m ρ fullShare 9 c ∗ dstP m ρ fullShare 10 c ∗ dstP m ρ fullShare 11 c ∗ semVal (recvCell 11 c) 0 ∗ srcP m ρ 0 c ∗ semVal (sendCell 0 c) 0) -∗ wpc c (kk ⟨⟩) Q)
          -∗ wpc c (k0_part10 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4 v5 >>= kk) Q) := by
  rw [k0_part10_eq_skeleton]
  unfold k0_part10_skel wpc
  simp -proj only [Prog.lift, Prog.bind_op, Prog.bind_ret, Prog.pure_eq_ret, Prog.bind_assoc, recv_11, send_0]
  iintro ⟨#HR, #Hlev, HO, Hh, Hw11, Hd8, Hd9, Hd10, Hp0, Hs0⟩ Hk
  iapply (wp_got m ρ K c 11 [] (by decide)) $$ [HO Hw11]
  · isplitr; · iexact HR
    isplitr; · iexact Hlev
    isplitl [HO]; · iexact HO
    iexact Hw11
  iintro ⟨Hd11, HO, Hz11⟩
  iapply (wp_ld_k m ρ c (iprop(dstP m ρ fullShare 8 c ∗ dstP m ρ fullShare 10 c)) fullShare (piece ckM 4 ∪ piece ckM 5) (join_k m ρ c) (Rect.unit (s := S3x4096x512) ![2, 0, 0] S1x4096x512.size inb_S3x4096x512_S1x4096x512_2_0_0) (slot2_k _)) $$ [Hd8 Hd10]
  · isplitl [Hd8]; · iexact Hd8
    iexact Hd10
  iintro ⟨Hd8, Hd10⟩
  iapply (wp_ld_v m ρ c (iprop(dstP m ρ fullShare 9 c ∗ dstP m ρ fullShare 11 c)) fullShare (piece cvM 4 ∪ piece cvM 5) (join_v m ρ c) (Rect.unit (s := S3x4096x512) ![2, 0, 0] S1x4096x512.size inb_S3x4096x512_S1x4096x512_2_0_0) (slot2_v _)) $$ [Hd9 Hd11]
  · isplitl [Hd9]; · iexact Hd9
    iexact Hd11
  iintro ⟨Hd9, Hd11⟩
  iapply (wp_add_loop_as c (qst m ρ c) (o5 m ρ c) (l5 m ρ c) k0_off11 k0_off12 k0_off11_inb k0_off12_inb k0_off11_eq k0_off12_eq (o6 m ρ c) (l6 m ρ c) (k0_pay21 (k2 m ρ c)) (k0_pay22 (k2 m ρ c) (v2 m ρ c)) rfl rfl) $$ Hh
  iintro Hh
  iapply (wp_end_loop c (qst m ρ c) (o6 m ρ c) (l6 m ρ c) k0_off13 k0_off14 k0_off13_inb k0_off14_inb k0_off13_eq k0_off14_eq k0_pay23) $$ Hh
  iintro Hh
  iapply (wp_back m ρ K c 0) $$ [HO Hp0 Hs0]
  · isplitr; · iexact HR
    isplitl [HO]; · iexact HO
    isplitl [Hp0]; · iexact Hp0
    iexact Hs0
  iintro ⟨Hr0, HO, Hy0⟩
  iapply Hk
  isplitl [HO]; · iexact HO
  isplitl [Hh]; · iexact Hh
  isplitl [Hd8]; · iexact Hd8
  isplitl [Hd9]; · iexact Hd9
  isplitl [Hd10]; · iexact Hd10
  isplitl [Hd11]; · iexact Hd11
  isplitl [Hz11]; · iexact Hz11
  isplitl [Hr0]; · iexact Hr0
  iexact Hy0

/-- Transfers 1 to 4 have left. -/
theorem wp_part11 (c : Dev nD) {α : Type} {Q : α → sProp 𝕄} {kk : PUnit → Prog (TpuEff nD τ sig (Elt F) Λ₀ .tc) α} :
    iprop(records m ρ K ∗ levAts L lv ∗ ow c (oweL c []) ∗ pend 1 c ∗ wantS 1 c ∗ pend 2 c ∗ wantS 2 c ∗ pend 3 c ∗ wantS 3 c ∗ pend 4 c ∗ wantS 4 c)
      ⊢ iprop(((ow c (oweL c []) ∗ srcP m ρ 1 c ∗ semVal (sendCell 1 c) 0 ∗ srcP m ρ 2 c ∗ semVal (sendCell 2 c) 0 ∗ srcP m ρ 3 c ∗ semVal (sendCell 3 c) 0 ∗ srcP m ρ 4 c ∗ semVal (sendCell 4 c) 0) -∗ wpc c (kk ⟨⟩) Q)
          -∗ wpc c (k0_part11 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4  >>= kk) Q) := by
  rw [k0_part11_eq_skeleton]
  unfold k0_part11_skel wpc
  simp -proj only [Prog.lift, Prog.bind_op, Prog.bind_ret, Prog.pure_eq_ret, Prog.bind_assoc, send_1, send_2, send_3, send_4]
  iintro ⟨#HR, #Hlev, HO, Hp1, Hs1, Hp2, Hs2, Hp3, Hs3, Hp4, Hs4⟩ Hk
  iapply (wp_back m ρ K c 1) $$ [HO Hp1 Hs1]
  · isplitr; · iexact HR
    isplitl [HO]; · iexact HO
    isplitl [Hp1]; · iexact Hp1
    iexact Hs1
  iintro ⟨Hr1, HO, Hy1⟩
  iapply (wp_back m ρ K c 2) $$ [HO Hp2 Hs2]
  · isplitr; · iexact HR
    isplitl [HO]; · iexact HO
    isplitl [Hp2]; · iexact Hp2
    iexact Hs2
  iintro ⟨Hr2, HO, Hy2⟩
  iapply (wp_back m ρ K c 3) $$ [HO Hp3 Hs3]
  · isplitr; · iexact HR
    isplitl [HO]; · iexact HO
    isplitl [Hp3]; · iexact Hp3
    iexact Hs3
  iintro ⟨Hr3, HO, Hy3⟩
  iapply (wp_back m ρ K c 4) $$ [HO Hp4 Hs4]
  · isplitr; · iexact HR
    isplitl [HO]; · iexact HO
    isplitl [Hp4]; · iexact Hp4
    iexact Hs4
  iintro ⟨Hr4, HO, Hy4⟩
  iapply Hk
  isplitl [HO]; · iexact HO
  isplitl [Hr1]; · iexact Hr1
  isplitl [Hy1]; · iexact Hy1
  isplitl [Hr2]; · iexact Hr2
  isplitl [Hy2]; · iexact Hy2
  isplitl [Hr3]; · iexact Hr3
  isplitl [Hy3]; · iexact Hy3
  isplitl [Hr4]; · iexact Hr4
  iexact Hy4

/-- Transfers 5 to 8 have left. -/
theorem wp_part12 (c : Dev nD) {α : Type} {Q : α → sProp 𝕄} {kk : PUnit → Prog (TpuEff nD τ sig (Elt F) Λ₀ .tc) α} :
    iprop(records m ρ K ∗ levAts L lv ∗ ow c (oweL c []) ∗ pend 5 c ∗ wantS 5 c ∗ pend 6 c ∗ wantS 6 c ∗ pend 7 c ∗ wantS 7 c ∗ pend 8 c ∗ wantS 8 c)
      ⊢ iprop(((ow c (oweL c []) ∗ srcP m ρ 5 c ∗ semVal (sendCell 5 c) 0 ∗ srcP m ρ 6 c ∗ semVal (sendCell 6 c) 0 ∗ srcP m ρ 7 c ∗ semVal (sendCell 7 c) 0 ∗ srcP m ρ 8 c ∗ semVal (sendCell 8 c) 0) -∗ wpc c (kk ⟨⟩) Q)
          -∗ wpc c (k0_part12 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4  >>= kk) Q) := by
  rw [k0_part12_eq_skeleton]
  unfold k0_part12_skel wpc
  simp -proj only [Prog.lift, Prog.bind_op, Prog.bind_ret, Prog.pure_eq_ret, Prog.bind_assoc, send_5, send_6, send_7, send_8]
  iintro ⟨#HR, #Hlev, HO, Hp5, Hs5, Hp6, Hs6, Hp7, Hs7, Hp8, Hs8⟩ Hk
  iapply (wp_back m ρ K c 5) $$ [HO Hp5 Hs5]
  · isplitr; · iexact HR
    isplitl [HO]; · iexact HO
    isplitl [Hp5]; · iexact Hp5
    iexact Hs5
  iintro ⟨Hr5, HO, Hy5⟩
  iapply (wp_back m ρ K c 6) $$ [HO Hp6 Hs6]
  · isplitr; · iexact HR
    isplitl [HO]; · iexact HO
    isplitl [Hp6]; · iexact Hp6
    iexact Hs6
  iintro ⟨Hr6, HO, Hy6⟩
  iapply (wp_back m ρ K c 7) $$ [HO Hp7 Hs7]
  · isplitr; · iexact HR
    isplitl [HO]; · iexact HO
    isplitl [Hp7]; · iexact Hp7
    iexact Hs7
  iintro ⟨Hr7, HO, Hy7⟩
  iapply (wp_back m ρ K c 8) $$ [HO Hp8 Hs8]
  · isplitr; · iexact HR
    isplitl [HO]; · iexact HO
    isplitl [Hp8]; · iexact Hp8
    iexact Hs8
  iintro ⟨Hr8, HO, Hy8⟩
  iapply Hk
  isplitl [HO]; · iexact HO
  isplitl [Hr5]; · iexact Hr5
  isplitl [Hy5]; · iexact Hy5
  isplitl [Hr6]; · iexact Hr6
  isplitl [Hy6]; · iexact Hy6
  isplitl [Hr7]; · iexact Hr7
  isplitl [Hy7]; · iexact Hy7
  isplitl [Hr8]; · iexact Hr8
  iexact Hy8

end Cert.KernelIdealProof

end
-- ==== Proof.KernelIdeal.Parts1.lean ====
/-
# `KernelIdeal`: the program's parts, first half
-/
module

public import proofs.«01_k».proof.Proof.KernelIdeal.Chain

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × CI → ℕ)

/-- Transfers 4, 1 and 5 start. -/
theorem wp_part2 (c : Dev nD) (v5 v7 : BitVec 32) {α : Type} {Q : α → sProp 𝕄} {kk : PUnit → Prog (TpuEff nD τ sig (Elt F) Λ₀ .tc) α} :
    iprop(records m ρ K ∗ levAts L lv ∗ ow c (oweL c [4, 1, 5, 2, 6, 3, 7, 8, 9, 10, 11]) ∗ ready m ρ 4 c ∗ ready m ρ 1 c ∗ ready m ρ 5 c)
      ⊢ iprop(((pend 4 c ∗ pend 1 c ∗ pend 5 c ∗ ow c (oweL c [2, 6, 3, 7, 8, 9, 10, 11])) -∗ wpc c (kk ⟨⟩) Q)
          -∗ wpc c (k0_part2 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4 c v5 v7 >>= kk) Q) := by
  rw [k0_part2_eq_skeleton]
  unfold k0_part2_skel wpc
  simp -proj only [Prog.lift, Prog.bind_op, Prog.bind_ret, Prog.pure_eq_ret, Prog.bind_assoc, send_4, recv_4, send_1, recv_1, send_5, recv_5]
  iintro ⟨#HR, #Hlev, HO, Hr4, Hr1, Hr5⟩ Hk
  iapply (wp_go m ρ K c 4 [1, 5, 2, 6, 3, 7, 8, 9, 10, 11] _ (dev_4 c)) $$ [HO Hr4]
  · isplitr; · iexact HR
    isplitl [HO]; · iexact HO
    iexact Hr4
  iintro ⟨Hp4, HO⟩
  iapply (wp_go m ρ K c 1 [5, 2, 6, 3, 7, 8, 9, 10, 11] _ (dev_1 c)) $$ [HO Hr1]
  · isplitr; · iexact HR
    isplitl [HO]; · iexact HO
    iexact Hr1
  iintro ⟨Hp1, HO⟩
  iapply (wp_go m ρ K c 5 [2, 6, 3, 7, 8, 9, 10, 11] _ (dev_5 c)) $$ [HO Hr5]
  · isplitr; · iexact HR
    isplitl [HO]; · iexact HO
    iexact Hr5
  iintro ⟨Hp5, HO⟩
  iapply Hk
  isplitl [Hp4]; · iexact Hp4
  isplitl [Hp1]; · iexact Hp1
  isplitl [Hp5]; · iexact Hp5
  iexact HO

/-- Transfers 2, 6 and 3 start. -/
theorem wp_part3 (c : Dev nD) (v5 v7 : BitVec 32) {α : Type} {Q : α → sProp 𝕄} {kk : PUnit → Prog (TpuEff nD τ sig (Elt F) Λ₀ .tc) α} :
    iprop(records m ρ K ∗ levAts L lv ∗ ow c (oweL c [2, 6, 3, 7, 8, 9, 10, 11]) ∗ ready m ρ 2 c ∗ ready m ρ 6 c ∗ ready m ρ 3 c)
      ⊢ iprop(((pend 2 c ∗ pend 6 c ∗ pend 3 c ∗ ow c (oweL c [7, 8, 9, 10, 11])) -∗ wpc c (kk ⟨⟩) Q)
          -∗ wpc c (k0_part3 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4 c v5 v7 >>= kk) Q) := by
  rw [k0_part3_eq_skeleton]
  unfold k0_part3_skel wpc
  simp -proj only [Prog.lift, Prog.bind_op, Prog.bind_ret, Prog.pure_eq_ret, Prog.bind_assoc, send_2, recv_2, send_6, recv_6, send_3, recv_3]
  iintro ⟨#HR, #Hlev, HO, Hr2, Hr6, Hr3⟩ Hk
  iapply (wp_go m ρ K c 2 [6, 3, 7, 8, 9, 10, 11] _ (dev_2 c)) $$ [HO Hr2]
  · isplitr; · iexact HR
    isplitl [HO]; · iexact HO
    iexact Hr2
  iintro ⟨Hp2, HO⟩
  iapply (wp_go m ρ K c 6 [3, 7, 8, 9, 10, 11] _ (dev_6 c)) $$ [HO Hr6]
  · isplitr; · iexact HR
    isplitl [HO]; · iexact HO
    iexact Hr6
  iintro ⟨Hp6, HO⟩
  iapply (wp_go m ρ K c 3 [7, 8, 9, 10, 11] _ (dev_3 c)) $$ [HO Hr3]
  · isplitr; · iexact HR
    isplitl [HO]; · iexact HO
    iexact Hr3
  iintro ⟨Hp3, HO⟩
  iapply Hk
  isplitl [Hp2]; · iexact Hp2
  isplitl [Hp6]; · iexact Hp6
  isplitl [Hp3]; · iexact Hp3
  iexact HO

/-- Transfer 7 starts, the own keys and values are attended to, transfers 0 and 1 have landed. -/
theorem wp_part4 (c : Dev nD) (v7 : BitVec 32) {o : (cc0_stg3_0 : Ref sig .tc).ty.Contents (Elt F)} {l : (cc0_scratch2 : Ref sig .tc).ty.Contents (Elt F)} {α : Type} {Q : α → sProp 𝕄} {kk : PUnit → Prog (TpuEff nD τ sig (Elt F) Λ₀ .tc) α} :
    iprop(records m ρ K ∗ levAts L lv ∗ ow c (oweL c [7, 8, 9, 10, 11]) ∗ ready m ρ 7 c ∗ (((c : Thread nD τ).loc cc0_stg1_0) ↦{fullShare.left} kst m ρ c) ∗ (((c : Thread nD τ).loc cc0_stg2_0) ↦{fullShare.left} vst m ρ c) ∗ held c (qst m ρ c) o l ∗ wantR 0 c ∗ wantR 1 c)
      ⊢ iprop(((pend 7 c ∗ ow c (oweL c [8, 9, 10, 11]) ∗ (((c : Thread nD τ).loc cc0_stg1_0) ↦{fullShare.left} kst m ρ c) ∗ (((c : Thread nD τ).loc cc0_stg2_0) ↦{fullShare.left} vst m ρ c) ∗ held c (qst m ρ c) (o1 m ρ c) (l1 m ρ c) ∗ dstP m ρ fullShare 0 c ∗ semVal (recvCell 0 c) 0 ∗ dstP m ρ fullShare 1 c ∗ semVal (recvCell 1 c) 0) -∗ wpc c (kk ⟨⟩) Q)
          -∗ wpc c (k0_part4 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4 c v7 >>= kk) Q) := by
  rw [k0_part4_eq_skeleton]
  unfold k0_part4_skel wpc
  simp -proj only [Prog.lift, Prog.bind_op, Prog.bind_ret, Prog.pure_eq_ret, Prog.bind_assoc, send_7, recv_7, recv_0, recv_1]
  iintro ⟨#HR, #Hlev, HO, Hr7, Hk1, Hv1, Hh, Hw0, Hw1⟩ Hk
  iapply (wp_go m ρ K c 7 [8, 9, 10, 11] _ (dev_7 c)) $$ [HO Hr7]
  · isplitr; · iexact HR
    isplitl [HO]; · iexact HO
    iexact Hr7
  iintro ⟨Hp7, HO⟩
  iapply (wp_load 𝒱₀ (c : Thread nD τ) none Set.univ (m := kM) (Finset.subset_univ _)) $$ Hk1
  iintro Hk1
  iapply (wp_load 𝒱₀ (c : Thread nD τ) none Set.univ (m := vM) (Finset.subset_univ _)) $$ Hv1
  iintro Hv1
  rw [read_kM, read_vM]
  iapply (wp_set_loop c (qst m ρ c) o l k0_off1 k0_off2 k0_off1_inb k0_off2_inb k0_off1_eq k0_off2_eq (k0_pay3 (kst m ρ c)) (k0_pay2 (kst m ρ c) (vst m ρ c))) $$ Hh
  iintro Hh
  iapply (wp_got m ρ K c 0 [8, 9, 10, 11] (by decide)) $$ [HO Hw0]
  · isplitr; · iexact HR
    isplitr; · iexact Hlev
    isplitl [HO]; · iexact HO
    iexact Hw0
  iintro ⟨Hd0, HO, Hz0⟩
  iapply (wp_got m ρ K c 1 [8, 9, 10, 11] (by decide)) $$ [HO Hw1]
  · isplitr; · iexact HR
    isplitr; · iexact Hlev
    isplitl [HO]; · iexact HO
    iexact Hw1
  iintro ⟨Hd1, HO, Hz1⟩
  iapply Hk
  isplitl [Hp7]; · iexact Hp7
  isplitl [HO]; · iexact HO
  isplitl [Hk1]; · iexact Hk1
  isplitl [Hv1]; · iexact Hv1
  isplitl [Hh]; · iexact Hh
  isplitl [Hd0]; · iexact Hd0
  isplitl [Hz0]; · iexact Hz0
  isplitl [Hd1]; · iexact Hd1
  iexact Hz1

/-- Transfers 8 and 9 start, transfer 4 has landed. -/
theorem wp_part5 (c : Dev nD) (v5 v7 : BitVec 32) {α : Type} {Q : α → sProp 𝕄} {kk : PUnit → Prog (TpuEff nD τ sig (Elt F) Λ₀ .tc) α} :
    iprop(records m ρ K ∗ levAts L lv ∗ ow c (oweL c [8, 9, 10, 11]) ∗ ready m ρ 8 c ∗ ready m ρ 9 c ∗ wantR 4 c)
      ⊢ iprop(((pend 8 c ∗ pend 9 c ∗ ow c (oweL c [10, 11]) ∗ dstP m ρ fullShare 4 c ∗ semVal (recvCell 4 c) 0) -∗ wpc c (kk ⟨⟩) Q)
          -∗ wpc c (k0_part5 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4 c v5 v7 >>= kk) Q) := by
  rw [k0_part5_eq_skeleton]
  unfold k0_part5_skel wpc
  simp -proj only [Prog.lift, Prog.bind_op, Prog.bind_ret, Prog.pure_eq_ret, Prog.bind_assoc, send_8, recv_8, send_9, recv_9, recv_4]
  iintro ⟨#HR, #Hlev, HO, Hr8, Hr9, Hw4⟩ Hk
  iapply (wp_go m ρ K c 8 [9, 10, 11] _ (dev_8 c)) $$ [HO Hr8]
  · isplitr; · iexact HR
    isplitl [HO]; · iexact HO
    iexact Hr8
  iintro ⟨Hp8, HO⟩
  iapply (wp_go m ρ K c 9 [10, 11] _ (dev_9 c)) $$ [HO Hr9]
  · isplitr; · iexact HR
    isplitl [HO]; · iexact HO
    iexact Hr9
  iintro ⟨Hp9, HO⟩
  iapply (wp_got m ρ K c 4 [10, 11] (by decide)) $$ [HO Hw4]
  · isplitr; · iexact HR
    isplitr; · iexact Hlev
    isplitl [HO]; · iexact HO
    iexact Hw4
  iintro ⟨Hd4, HO, Hz4⟩
  iapply Hk
  isplitl [Hp8]; · iexact Hp8
  isplitl [Hp9]; · iexact Hp9
  isplitl [HO]; · iexact HO
  isplitl [Hd4]; · iexact Hd4
  iexact Hz4

/-- Transfer 5 has landed, transfers 10 and 11 start, the first landed half is loaded. -/
theorem wp_part6 (c : Dev nD) (v5 : BitVec 32) {α : Type} {Q : α → sProp 𝕄} {kk : (Σ' (_ : FVec F S2048x512 .bf16), FVec F S2048x512 .bf16) → Prog (TpuEff nD τ sig (Elt F) Λ₀ .tc) α} :
    iprop(records m ρ K ∗ levAts L lv ∗ ow c (oweL c [10, 11]) ∗ wantR 5 c ∗ ready m ρ 10 c ∗ dstAny 11 (tgt 11 c) ∗ fuel 11 c ∗ dstP m ρ fullShare.left 0 c ∗ dstP m ρ fullShare.left 1 c)
      ⊢ iprop(((pend 10 c ∗ pend 11 c ∗ ow c (oweL c []) ∗ dstP m ρ fullShare.left 5 c ∗ semVal (recvCell 5 c) 0 ∗ dstP m ρ fullShare.left 0 c ∗ dstP m ρ fullShare.left 1 c) -∗ wpc c (kk ⟨k0_pay4 (k00 m ρ c), k0_pay5 (v00 m ρ c)⟩) Q)
          -∗ wpc c (k0_part6 (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4 c v5 >>= kk) Q) := by
  rw [k0_part6_eq_skeleton]
  unfold k0_part6_skel wpc
  simp -proj only [Prog.lift, Prog.bind_op, Prog.bind_ret, Prog.pure_eq_ret, Prog.bind_assoc, recv_5, send_10, recv_10, send_11, recv_11]
  iintro ⟨#HR, #Hlev, HO, Hw5, Hr10, Ha11, Hf11, Hd0, Hd1⟩ Hk
  iapply (wp_got m ρ K c 5 [10, 11] (by decide)) $$ [HO Hw5]
  · isplitr; · iexact HR
    isplitr; · iexact Hlev
    isplitl [HO]; · iexact HO
    iexact Hw5
  iintro ⟨Hd5, HO, Hz5⟩
  iapply (wp_go m ρ K c 10 [11] _ (dev_10 c)) $$ [HO Hr10]
  · isplitr; · iexact HR
    isplitl [HO]; · iexact HO
    iexact Hr10
  iintro ⟨Hp10, HO⟩
  ihave Hd5 := (Entails.of_eq (fwd_11 m ρ c)) $$ Hd5
  icases Hd5 with ⟨Hd5, Hs11⟩
  iapply (wp_go m ρ K c 11 [] _ (dev_11 c)) $$ [HO Hs11 Ha11 Hf11]
  · isplitr; · iexact HR
    isplitl [HO]; · iexact HO
    unfold ready
    isplitl [Hs11]; · iexact Hs11
    isplitl [Ha11]; · iexact Ha11
    iexact Hf11
  iintro ⟨Hp11, HO⟩
  iapply (wp_ld_k m ρ c (dstP m ρ fullShare.left 0 c) fullShare.left (s0a ckM).view.set rfl (slotR 0 0 inb_S3x4096x512_S1x2048x512_0_0_0) (sq_sub _ _)) $$ Hd0
  iintro Hd0
  iapply (wp_ld_v m ρ c (dstP m ρ fullShare.left 1 c) fullShare.left (s0a cvM).view.set rfl (slotR 0 0 inb_S3x4096x512_S1x2048x512_0_0_0) (sq_sub _ _)) $$ Hd1
  iintro Hd1
  iapply Hk
  isplitl [Hp10]; · iexact Hp10
  isplitl [Hp11]; · iexact Hp11
  isplitl [HO]; · iexact HO
  isplitl [Hd5]; · iexact Hd5
  isplitl [Hz5]; · iexact Hz5
  isplitl [Hd0]; · iexact Hd0
  iexact Hd1

end Cert.KernelIdealProof

end
-- ==== Proof.KernelIdeal.Body.lean ====
/-
# `KernelIdeal`: the whole program of a device
-/
module

public import proofs.«01_k».proof.Proof.KernelIdeal.Parts2
public import proofs.«01_k».proof.Proof.KernelIdeal.Parts1

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × CI → ℕ)

/-- A family over the twelve transfers, side by side. -/
def twelve (Φ : Fin 12 → sProp 𝕄) : sProp 𝕄 :=
  iprop(Φ 0 ∗ Φ 1 ∗ Φ 2 ∗ Φ 3 ∗ Φ 4 ∗ Φ 5 ∗ Φ 6 ∗ Φ 7 ∗ Φ 8 ∗ Φ 9 ∗ Φ 10 ∗ Φ 11)

theorem twelve_eq (Φ : Fin 12 → sProp 𝕄) : bigSep Finset.univ Φ = twelve Φ :=
  bigSep_univ_eq_bigSepL [0, 1, 2, 3, 4, 5, 6, 7, 8, 9, 10, 11] (by decide) (by decide) Φ

/-- What a device's program starts from, beside the cells' records: what it owes, the tokens and credits of its share of
    the protocol, the staged blocks, and buffers of any contents. -/
def bodyStart (c : Dev nD) (f0 : Buf (Elt F) ((c : Thread nD τ).loc cc0_scratch0)) (f1 : Buf (Elt F) ((c : Thread nD τ).loc cc0_scratch1))
    (o : (cc0_stg3_0 : Ref sig .tc).ty.Contents (Elt F)) (l : (cc0_scratch2 : Ref sig .tc).ty.Contents (Elt F)) : sProp 𝕄 :=
  iprop(ow c (O₀ c) ∗ dutyTok ER (barCell (prv c)) 0 true ∗ dutyTok ER (barCell (nxt c)) 0 false
    ∗ cred (tallyAt (barCell c) () 2) ∗ atPos ER (barCell c) 0 ∅ 0
    ∗ twelve (fun i => fuel i c) ∗ twelve (fun i => wantR i c) ∗ twelve (fun i => wantS i c)
    ∗ (((c : Thread nD τ).loc cc0_scratch0) ↦{fullShare} f0) ∗ (((c : Thread nD τ).loc cc0_scratch1) ↦{fullShare} f1)
    ∗ held c (qst m ρ c) o l
    ∗ (((c : Thread nD τ).loc cc0_stg1_0) ↦{fullShare} kst m ρ c) ∗ (((c : Thread nD τ).loc cc0_stg2_0) ↦{fullShare} vst m ρ c))

/-- What it ends with: nothing owed, the result, the staged blocks again, the landed buffers, every counter at zero. -/
def bodyEnd (c : Dev nD) : sProp 𝕄 :=
  iprop(ow c (oweL c []) ∗ held c (qst m ρ c) (outAt m ρ c) (l6 m ρ c)
    ∗ (((c : Thread nD τ).loc cc0_stg1_0) ↦{fullShare} kst m ρ c) ∗ (((c : Thread nD τ).loc cc0_stg2_0) ↦{fullShare} vst m ρ c)
    ∗ (((c : Thread nD τ).loc cc0_scratch0) ↦{fullShare} CK m ρ c) ∗ (((c : Thread nD τ).loc cc0_scratch1) ↦{fullShare} CV m ρ c)
    ∗ twelve (fun i => semVal (sendCell i c) 0) ∗ twelve (fun i => semVal (recvCell i c) 0) ∗ semVal (barCell c) 0)

set_option maxHeartbeats 1600000 in
/-- The program of device `c`, part by part, from `bodyStart` to `bodyEnd`. -/
theorem wp_body (c : Dev nD) (f0 f1 o l) {Q : PUnit → sProp 𝕄} :
    iprop(records m ρ K ∗ levAts L lv ∗ bodyStart m ρ c f0 f1 o l)
      ⊢ iprop((bodyEnd m ρ c -∗ Q ⟨⟩) -∗ wpc c (cc0_body (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4) Q) := by
  rw [cc0_body_eq_skeleton]
  unfold cc0_body_skel bodyStart twelve
  simp -proj only [Prog.lift, Prog.bind_op, Prog.bind_ret, Prog.pure_eq_ret, Prog.bind_assoc, send_9, send_10, send_11]
  iintro ⟨#HR, #Hlev, HO, Hb1, Hb2, Hcb, Hab, ⟨F0, F1, F2, F3, F4, F5, F6, F7, F8, F9, F10, F11⟩, ⟨R0, R1, R2, R3, R4, R5, R6, R7, R8, R9, R10, R11⟩, ⟨W0, W1, W2, W3, W4, W5, W6, W7, W8, W9, W10, W11⟩, Hc0, Hc1, Hh, Hk0, Hv0⟩ Hk
  ihave Hc0 := (open_k c f0) $$ Hc0
  icases Hc0 with ⟨D0, D2, D4, D6, D8, D10⟩
  ihave Hc1 := (open_v c f1) $$ Hc1
  icases Hc1 with ⟨D1, D3, D5, D7, D9, D11⟩
  ihave Hk0 := (Entails.of_eq (parts_k m ρ c)) $$ Hk0
  icases Hk0 with ⟨Hk1, ⟨S0, S2⟩, S6, S4⟩
  ihave Hv0 := (Entails.of_eq (parts_v m ρ c)) $$ Hv0
  icases Hv0 with ⟨Hv1, ⟨S1, S3⟩, S7, S5⟩
  iapply (wp_part1 m ρ K c) $$ [HO Hb1 Hb2 D0 D1 D2 D3 D8 D9 D4 D5 D6 D7 D10 D11 Hcb Hab S0 F0]
  · isplitr; · iexact HR
    isplitr; · iexact Hlev
    isplitl [HO]; · iexact HO
    isplitl [Hb1]; · iexact Hb1
    isplitl [Hb2]; · iexact Hb2
    isplitl [D0 D1 D2 D3 D8 D9]
    · isplitl [D0]; · iexact D0
      isplitl [D1]; · iexact D1
      isplitl [D2]; · iexact D2
      isplitl [D3]; · iexact D3
      isplitl [D8]; · iexact D8
      iexact D9
    isplitl [D4 D5 D6 D7 D10 D11]
    · isplitl [D4]; · iexact D4
      isplitl [D5]; · iexact D5
      isplitl [D6]; · iexact D6
      isplitl [D7]; · iexact D7
      isplitl [D10]; · iexact D10
      iexact D11
    isplitl [Hcb]; · iexact Hcb
    isplitl [Hab]; · iexact Hab
    isplitl [S0]; · iexact S0
    iexact F0
  iintro %v5 %v7 ⟨⟨A4, A5, A6, A7, A10, A11⟩, ⟨A1, A2, A3, A8, A9⟩, P0, HO, ZB⟩
  iapply (wp_part2 m ρ K c v5 v7) $$ [HO S4 A4 F4 S1 A1 F1 S5 A5 F5]
  · isplitr; · iexact HR
    isplitr; · iexact Hlev
    isplitl [HO]; · iexact HO
    isplitl [S4 A4 F4]
    · unfold ready
      isplitl [S4]; · iexact S4
      isplitl [A4]; · iexact A4
      iexact F4
    isplitl [S1 A1 F1]
    · unfold ready
      isplitl [S1]; · iexact S1
      isplitl [A1]; · iexact A1
      iexact F1
    unfold ready
    isplitl [S5]; · iexact S5
    isplitl [A5]; · iexact A5
    iexact F5
  iintro ⟨P4, P1, P5, HO⟩
  iapply (wp_part3 m ρ K c v5 v7) $$ [HO S2 A2 F2 S6 A6 F6 S3 A3 F3]
  · isplitr; · iexact HR
    isplitr; · iexact Hlev
    isplitl [HO]; · iexact HO
    isplitl [S2 A2 F2]
    · unfold ready
      isplitl [S2]; · iexact S2
      isplitl [A2]; · iexact A2
      iexact F2
    isplitl [S6 A6 F6]
    · unfold ready
      isplitl [S6]; · iexact S6
      isplitl [A6]; · iexact A6
      iexact F6
    unfold ready
    isplitl [S3]; · iexact S3
    isplitl [A3]; · iexact A3
    iexact F3
  iintro ⟨P2, P6, P3, HO⟩
  iapply (wp_part4 m ρ K c v7) $$ [HO S7 A7 F7 Hk1 Hv1 Hh R0 R1]
  · isplitr; · iexact HR
    isplitr; · iexact Hlev
    isplitl [HO]; · iexact HO
    isplitl [S7 A7 F7]
    · unfold ready
      isplitl [S7]; · iexact S7
      isplitl [A7]; · iexact A7
      iexact F7
    isplitl [Hk1]; · iexact Hk1
    isplitl [Hv1]; · iexact Hv1
    isplitl [Hh]; · iexact Hh
    isplitl [R0]; · iexact R0
    iexact R1
  iintro ⟨P7, HO, Hk1, Hv1, Hh, E0, Z0, E1, Z1⟩
  ihave E0 := (Entails.of_eq (fwd_8 m ρ c)) $$ E0
  icases E0 with ⟨E0, S8⟩
  ihave E1 := (Entails.of_eq (fwd_9 m ρ c)) $$ E1
  icases E1 with ⟨E1, S9⟩
  iapply (wp_part5 m ρ K c v5 v7) $$ [HO S8 A8 F8 S9 A9 F9 R4]
  · isplitr; · iexact HR
    isplitr; · iexact Hlev
    isplitl [HO]; · iexact HO
    isplitl [S8 A8 F8]
    · unfold ready
      isplitl [S8]; · iexact S8
      isplitl [A8]; · iexact A8
      iexact F8
    isplitl [S9 A9 F9]
    · unfold ready
      isplitl [S9]; · iexact S9
      isplitl [A9]; · iexact A9
      iexact F9
    iexact R4
  iintro ⟨P8, P9, HO, E4, Z4⟩
  ihave E4 := (Entails.of_eq (fwd_10 m ρ c)) $$ E4
  icases E4 with ⟨E4, S10⟩
  iapply (wp_part6 m ρ K c v5) $$ [HO R5 S10 A10 F10 A11 F11 E0 E1]
  · isplitr; · iexact HR
    isplitr; · iexact Hlev
    isplitl [HO]; · iexact HO
    isplitl [R5]; · iexact R5
    isplitl [S10 A10 F10]
    · unfold ready
      isplitl [S10]; · iexact S10
      isplitl [A10]; · iexact A10
      iexact F10
    isplitl [A11]; · iexact A11
    isplitl [F11]; · iexact F11
    isplitl [E0]; · iexact E0
    iexact E1
  iintro ⟨P10, P11, HO, E5, Z5, E0, E1⟩
  iapply (wp_part7 m ρ K c v7) $$ [HO Hh E4 E5 R2 R3]
  · isplitr; · iexact HR
    isplitr; · iexact Hlev
    isplitl [HO]; · iexact HO
    isplitl [Hh]; · iexact Hh
    isplitl [E4]; · iexact E4
    isplitl [E5]; · iexact E5
    isplitl [R2]; · iexact R2
    iexact R3
  iintro ⟨HO, Hh, E4, E5, E2, Z2, E3, Z3⟩
  iapply (wp_part8 m ρ K c v5) $$ [HO Hh E3 R6 R7]
  · isplitr; · iexact HR
    isplitr; · iexact Hlev
    isplitl [HO]; · iexact HO
    isplitl [Hh]; · iexact Hh
    isplitl [E3]; · iexact E3
    isplitl [R6]; · iexact R6
    iexact R7
  iintro ⟨HO, Hh, E3, E6, Z6, E7, Z7⟩
  iapply (wp_part9 m ρ K c v5 v7 0#32 1#32) $$ [HO Hh R8 R9 R10]
  · isplitr; · iexact HR
    isplitr; · iexact Hlev
    isplitl [HO]; · iexact HO
    isplitl [Hh]; · iexact Hh
    isplitl [R8]; · iexact R8
    isplitl [R9]; · iexact R9
    iexact R10
  iintro ⟨HO, Hh, E8, Z8, E9, Z9, E10, Z10⟩
  iapply (wp_part10 m ρ K c v5) $$ [HO Hh R11 E8 E9 E10 P0 W0]
  · isplitr; · iexact HR
    isplitr; · iexact Hlev
    isplitl [HO]; · iexact HO
    isplitl [Hh]; · iexact Hh
    isplitl [R11]; · iexact R11
    isplitl [E8]; · iexact E8
    isplitl [E9]; · iexact E9
    isplitl [E10]; · iexact E10
    isplitl [P0]; · iexact P0
    iexact W0
  iintro ⟨HO, Hh, E8, E9, E10, E11, Z11, S0, Y0⟩
  iapply (wp_part11 m ρ K c) $$ [HO P1 W1 P2 W2 P3 W3 P4 W4]
  · isplitr; · iexact HR
    isplitr; · iexact Hlev
    isplitl [HO]; · iexact HO
    isplitl [P1]; · iexact P1
    isplitl [W1]; · iexact W1
    isplitl [P2]; · iexact P2
    isplitl [W2]; · iexact W2
    isplitl [P3]; · iexact P3
    isplitl [W3]; · iexact W3
    isplitl [P4]; · iexact P4
    iexact W4
  iintro ⟨HO, S1, Y1, S2, Y2, S3, Y3, S4, Y4⟩
  iapply (wp_part12 m ρ K c) $$ [HO P5 W5 P6 W6 P7 W7 P8 W8]
  · isplitr; · iexact HR
    isplitr; · iexact Hlev
    isplitl [HO]; · iexact HO
    isplitl [P5]; · iexact P5
    isplitl [W5]; · iexact W5
    isplitl [P6]; · iexact P6
    isplitl [W6]; · iexact W6
    isplitl [P7]; · iexact P7
    isplitl [W7]; · iexact W7
    isplitl [P8]; · iexact P8
    iexact W8
  iintro ⟨HO, S5, Y5, S6, Y6, S7, Y7, S8, Y8⟩
  iapply (wp_back m ρ K c 9) $$ [HO P9 W9]
  · isplitr; · iexact HR
    isplitl [HO]; · iexact HO
    isplitl [P9]; · iexact P9
    iexact W9
  iintro ⟨S9, HO, Y9⟩
  iapply (wp_back m ρ K c 10) $$ [HO P10 W10]
  · isplitr; · iexact HR
    isplitl [HO]; · iexact HO
    isplitl [P10]; · iexact P10
    iexact W10
  iintro ⟨S10, HO, Y10⟩
  iapply (wp_back m ρ K c 11) $$ [HO P11 W11]
  · isplitr; · iexact HR
    isplitl [HO]; · iexact HO
    isplitl [P11]; · iexact P11
    iexact W11
  iintro ⟨S11, HO, Y11⟩
  ihave E0 := (Entails.of_eq (fwd_8 m ρ c).symm) $$ [E0 S8]
  · isplitl [E0] <;> iassumption
  ihave E1 := (Entails.of_eq (fwd_9 m ρ c).symm) $$ [E1 S9]
  · isplitl [E1] <;> iassumption
  ihave E4 := (Entails.of_eq (fwd_10 m ρ c).symm) $$ [E4 S10]
  · isplitl [E4] <;> iassumption
  ihave E5 := (Entails.of_eq (fwd_11 m ρ c).symm) $$ [E5 S11]
  · isplitl [E5] <;> iassumption
  ihave HK := (Entails.of_eq (parts_k m ρ c).symm) $$ [Hk1 S0 S2 S6 S4]
  · isplitl [Hk1]; · iexact Hk1
    isplitl [S0 S2]
    · isplitl [S0] <;> iassumption
    isplitl [S6] <;> iassumption
  ihave HV := (Entails.of_eq (parts_v m ρ c).symm) $$ [Hv1 S1 S3 S7 S5]
  · isplitl [Hv1]; · iexact Hv1
    isplitl [S1 S3]
    · isplitl [S1] <;> iassumption
    isplitl [S7] <;> iassumption
  ihave Ck := (close_k m ρ c) $$ [E0 E2 E4 E6 E8 E10]
  · isplitl [E0]; · iexact E0
    isplitl [E2]; · iexact E2
    isplitl [E4]; · iexact E4
    isplitl [E6]; · iexact E6
    isplitl [E8]; · iexact E8
    iexact E10
  ihave Cv := (close_v m ρ c) $$ [E1 E3 E5 E7 E9 E11]
  · isplitl [E1]; · iexact E1
    isplitl [E3]; · iexact E3
    isplitl [E5]; · iexact E5
    isplitl [E7]; · iexact E7
    isplitl [E9]; · iexact E9
    iexact E11
  unfold wpc
  rw [wp_ret]
  imodintro
  iapply Hk
  unfold bodyEnd twelve
  isplitl [HO]; · iexact HO
  isplitl [Hh]; · iexact Hh
  isplitl [HK]; · iexact HK
  isplitl [HV]; · iexact HV
  isplitl [Ck]; · iexact Ck
  isplitl [Cv]; · iexact Cv
  isplitl [Y0 Y1 Y2 Y3 Y4 Y5 Y6 Y7 Y8 Y9 Y10 Y11]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    isplitl [Y9]; · iexact Y9
    isplitl [Y10]; · iexact Y10
    iexact Y11
  isplitl [Z0 Z1 Z2 Z3 Z4 Z5 Z6 Z7 Z8 Z9 Z10 Z11]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    iexact Z11
  iexact ZB

end Cert.KernelIdealProof

end
-- ==== Proof.KernelIdeal.Credits.lean ====
/-
# `KernelIdeal`: the credits at launch
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the devices owe a cell at launch -/

theorem bar_inj {a b : Dev nD} (h : barCell a = barCell b) : a = b := congrArg (fun g : GSem nD τ sig => g.1.1) h

theorem recv_inj {i j : Fin 12} {a b : Dev nD} (h : recvCell i a = recvCell j b) : i = j ∧ a = b := by
  refine ⟨?_, congrArg (fun g : GSem nD τ sig => g.1.1) h⟩
  have e : recvIdx (recvCell i a).2 = recvIdx (recvCell j b).2 := congrArg (fun g : GSem nD τ sig => recvIdx g.2) h
  rw [recvIdx_recv, recvIdx_recv] at e
  exact Option.some.inj e

/-- No transfer owes a barrier cell anything. -/
theorem oweL_bar (d c : Dev nD) (l : List (Fin 12)) : oweL d l (barCell c) () = 0 := by
  by_contra h
  obtain ⟨i, -, e⟩ := oweL_pos (Nat.pos_of_ne_zero h)
  exact recv_ne_bar i (congrArg Prod.snd e).symm

/-- A receive cell is owed its credit once for each time its transfer stands in the list, by the device that starts it. -/
theorem oweL_recv (d c : Dev nD) (i : Fin 12) (l : List (Fin 12)) : oweL d l (recvCell i c) () = if d = org i c then l.count i * N else 0 := by
  induction l with
  | nil => rw [List.count_nil, Nat.zero_mul, ite_self]; rfl
  | cons j l ih =>
    unfold oweL
    rw [Pi.add_apply, Finsupp.add_apply, ih, tallyAt_apply]
    by_cases hd : d = org i c
    · rw [if_pos hd, if_pos hd]
      by_cases hj : j = i
      · subst hj
        rw [if_pos ⟨by rw [hd, tgt_org], rfl⟩, List.count_cons_self, Nat.add_mul, Nat.one_mul]
      · rw [if_neg fun h => hj (recv_inj h.1).1.symm, List.count_cons_of_ne hj, Nat.add_zero]
    · rw [if_neg hd, if_neg hd, if_neg, Nat.add_zero]
      rintro ⟨h, -⟩
      obtain ⟨rfl, e⟩ := recv_inj h
      exact hd (by rw [e, org_tgt])

theorem owed_bar (d c : Dev nD) : O₀ d (barCell c) () = (if d = prv c then 1 else 0) + (if d = nxt c then 1 else 0) := by
  unfold O₀ O₁
  rw [Pi.add_apply, Finsupp.add_apply, Pi.add_apply, Finsupp.add_apply, oweL_bar, Nat.zero_add, tallyAt_apply, tallyAt_apply]
  congr 1
  · exact if_congr ⟨fun h => by rw [bar_inj h.1, prv_nxt], fun h => ⟨by rw [h, nxt_prv], rfl⟩⟩ rfl rfl
  · exact if_congr ⟨fun h => by rw [bar_inj h.1, nxt_prv], fun h => ⟨by rw [h, prv_nxt], rfl⟩⟩ rfl rfl

theorem owed_recv (d c : Dev nD) (i : Fin 12) : O₀ d (recvCell i c) () = if d = org i c then N else 0 := by
  unfold O₀ O₁
  rw [Pi.add_apply, Finsupp.add_apply, Pi.add_apply, Finsupp.add_apply, oweL_recv, tallyAt_ne_cell (fun h => recv_ne_bar i (congrArg Prod.snd h)),
    tallyAt_ne_cell (fun h => recv_ne_bar i (congrArg Prod.snd h)), Finsupp.zero_apply, Nat.add_zero, Nat.add_zero,
    show order.count i = 1 by revert i; decide, Nat.one_mul]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_recv (c : Dev nD) (i : Fin 12) :
    tallyOn (recvCell i c) (launchCredit (Pipeline.owing O₀) 0 (recvCell i c)) = (tallyAt (recvCell i c) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (org i c) fun _ => N,
    if_pos (Finset.mem_univ _)]

theorem recvLoc_injective : Function.Injective fun i : Fin 12 => (SemLoc.dma (recvSem i) : SemLoc sig) := fun i j h => by
  have e := congrArg recvIdx h
  dsimp only at e
  rw [recvIdx_recv, recvIdx_recv] at e
  exact Option.some.inj e

/-- A device's launch credit holds its barrier's two units and each receive cell's credit. -/
theorem creds (c : Dev nD) :
    (Pipeline.launchCred O₀ c : sProp 𝕄) ⊢ iprop(cred (tallyAt (barCell c) () 2) ∗ bigSep Finset.univ fun i : Fin 12 => cred (tallyAt (recvCell i c) () N)) := by
  unfold Pipeline.launchCred
  rw [bigSep_univ_at _ (SemLoc.reg barS), launch_bar]
  refine sep_mono_right ?_
  refine (bigSep_subset (t := Finset.univ.map ⟨_, recvLoc_injective⟩) fun s hs => ?_).trans ?_
  · obtain ⟨i, -, rfl⟩ := Finset.mem_map.mp hs
    exact Finset.mem_erase.mpr ⟨recv_ne_bar i, Finset.mem_univ _⟩
  · rw [bigSep_map]
    exact Entails.of_eq (bigSep_congr fun i _ => by rw [← launch_recv]; rfl)

end Cert.KernelIdealProof

end
-- ==== Proof.KernelIdeal.Data.lean ====
/-
# `KernelIdeal`: the call's proof data and its body
-/
module

public import proofs.«01_k».proof.Proof.KernelIdeal.Credits

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × CI → ℕ)

/-- What device `c` holds of the protocol beside the records: its places, and the tokens it pays with. -/
def linear (c : Dev nD) : sProp 𝕄 :=
  iprop((atPos ER (barCell c) 0 ∅ 0 ∗ (bigSep Finset.univ fun i : Fin 12 => wantS i c) ∗ bigSep Finset.univ fun i : Fin 12 => atPos ER (recvCell i c) 0 ∅ 0)
    ∗ dutyTok ER (barCell (prv c)) 0 true ∗ dutyTok ER (barCell (nxt c)) 0 false ∗ bigSep Finset.univ fun i : Fin 12 => fuel i c)

/-- What device `c`'s program starts from. -/
def start (c : Dev nD) : sProp 𝕄 :=
  iprop((∃ K, records m ρ K ∗ linear c) ∗ (cred (tallyAt (barCell c) () 2) ∗ bigSep Finset.univ fun i : Fin 12 => cred (tallyAt (recvCell i c) () N)) ∗ levAts L lv)

def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- After the program: the landed buffers and the sums, and every counter at zero. -/
def Φ₁ (c : Dev nD) : sProp 𝕄 :=
  iprop((((c : Thread nD τ).loc cc0_scratch0) ↦{fullShare} CK m ρ c) ∗ (((c : Thread nD τ).loc cc0_scratch1) ↦{fullShare} CV m ρ c)
    ∗ ((((c : Thread nD τ).loc cc0_scratch2) ↦{fullShare} l6 m ρ c) : sProp 𝕄)
    ∗ twelve (fun i => semVal (sendCell i c) 0) ∗ twelve (fun i => semVal (recvCell i c) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qst m ρ c
    | ⟨1, _⟩ => kst m ρ c
    | ⟨2, _⟩ => vst m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m ρ c ∗ (dats m ρ 0 c).owesAt () t0_0.succ
    ∗ stg c cc0_stg0_0 (qst m ρ c) ∗ stg c cc0_stg1_0 (kst m ρ c) ∗ stg c cc0_stg2_0 (vst m ρ c) ∗ stg c cc0_stg3_0 (outAt m ρ c))

theorem wants_eq (c : Dev nD) : iprop((bigSep Finset.univ fun i : Fin 12 => cred (tallyAt (recvCell i c) () N)) ∗ bigSep Finset.univ fun i : Fin 12 => atPos ER (recvCell i c) 0 ∅ 0)
    = (twelve fun i => wantR i c : sProp 𝕄) := by
  rw [← twelve_eq, ← bigSep_sep']; rfl

/-- The program of device `c` from what the call stages to what it writes back. -/
theorem sound_body (c : Dev nD) :
    bodyPre m ρ c ⊢ wpc c (cc0_body (F := F) qM (Memref.isWhole_whole _) kM (Memref.isWhole_whole _) vM (Memref.isWhole_whole _) oM (Memref.isWhole_whole _) ckM (Memref.isWhole_whole _) cvM (Memref.isWhole_whole _) lM (Memref.isWhole_whole _) cc0_scratch3 cc0_scratch4) (fun _ => bodyPost m ρ c) := by
  unfold bodyPre Φ₀ start linear
  iintro ⟨⟨⟨⟨%K, #HR, ⟨Hab, Hs, Hr⟩, Hb1, Hb2, Hf⟩, ⟨Hcb, Hcr⟩, #Hlev⟩, ⟨%f0, H0⟩, ⟨%f1, H1⟩, ⟨%f2, H2⟩⟩, Ho,
    ⟨%d0, %g0, %hg0, Hq⟩, ⟨%d1, %g1, %hg1, Hk⟩, ⟨%d2, %g2, %hg2, Hv⟩, ⟨%d3, %g3, %hg3, Hout⟩⟩
  have h0 : g0 = qst m ρ c := by rw [hg0]; unfold Dat.before; rw [if_pos (fetch0_0 t0_0)]; rfl
  have h1 : g1 = kst m ρ c := by rw [hg1]; unfold Dat.before; rw [if_pos (fetch0_1 t0_0)]; rfl
  have h2 : g2 = vst m ρ c := by rw [hg2]; unfold Dat.before; rw [if_pos (fetch0_2 t0_0)]; rfl
  subst h0 h1 h2
  unfold Dat.owesAt Pipeline.owesWithin
  icases Ho with ⟨%W, %hW, HO⟩
  rw [show (dats m ρ 0 c).owed t0_0.castSucc = O₀ c from rfl]
  ihave Hr := (Entails.of_eq (wants_eq c)) $$ [Hcr Hr]
  · isplitl [Hcr] <;> iassumption
  ihave Hf := (Entails.of_eq (twelve_eq fun i => fuel i c)) $$ Hf
  ihave Hs := (Entails.of_eq (twelve_eq fun i => wantS i c)) $$ Hs
  iapply (wp_body m ρ K c f0 f1 g3 f2) $$ [HO Hb1 Hb2 Hcb Hab Hf Hr Hs H0 H1 H2 Hq Hk Hv Hout]
  · isplitr; · iexact HR
    isplitr; · iexact Hlev
    unfold bodyStart held ow
    isplitl [HO]; · iexists W; iexact HO
    isplitl [Hb1]; · iexact Hb1
    isplitl [Hb2]; · iexact Hb2
    isplitl [Hcb]; · iexact Hcb
    isplitl [Hab]; · iexact Hab
    isplitl [Hf]; · iexact Hf
    isplitl [Hr]; · iexact Hr
    isplitl [Hs]; · iexact Hs
    isplitl [H0]; · iexact H0
    isplitl [H1]; · iexact H1
    isplitl [Hq Hout H2]
    · isplitl [Hq]; · iexact Hq
      isplitl [Hout]; · iexact Hout
      iexact H2
    isplitl [Hk]; · iexact Hk
    iexact Hv
  unfold bodyEnd bodyPost Φ₁ held ow
  iintro ⟨⟨%W', HO⟩, ⟨Hq, Hout, H2⟩, Hk, Hv, H0, H1, Hy, Hz, Hzb⟩
  isplitl [H0 H1 H2 Hy Hz Hzb]
  · isplitl [H0]; · iexact H0
    isplitl [H1]; · iexact H1
    isplitl [H2]; · iexact H2
    isplitl [Hy]; · iexact Hy
    isplitl [Hz]; · iexact Hz
    iexact Hzb
  isplitl [HO]
  · unfold Dat.owesAt Pipeline.owesWithin
    rw [show (dats m ρ 0 c).owed t0_0.succ = 0 from rfl]
    iexists W'
    isplitr; · ipureintro; exact fun _ _ => Or.inl trivial
    iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexists _; isplitr; · (ipureintro; rfl)
  iexact Hout

/-- What the library asks of a call's body, for device `c`. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_whole_eq]
  exact sound_body m ρ c

end Cert.KernelIdealProof

end
-- ==== Proof.KernelIdeal.Launch.lean ====
/-
# `KernelIdeal`: the launch and the run
-/
module

public import proofs.«01_k».proof.Proof.KernelIdeal.Data
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## All cells and all tokens -/

theorem csem_injective : Function.Injective (csem : CI → SemLoc sig) := by
  rintro (a | (i | i)) (b | (j | j)) h
  · rfl
  · exact absurd h.symm (send_ne_bar j)
  · exact absurd h.symm (recv_ne_bar j)
  · exact absurd h (send_ne_bar i)
  · have e := congrArg sendIdx h; dsimp only [csem, osem] at e; rw [sendIdx_send, sendIdx_send] at e; rw [Option.some.inj e]
  · have e := congrArg recvIdx h; dsimp only [csem, osem] at e; rw [recvIdx_send, recvIdx_recv] at e; cases e
  · exact absurd h (recv_ne_bar i)
  · have e := congrArg recvIdx h; dsimp only [csem, osem] at e; rw [recvIdx_send, recvIdx_recv] at e; cases e
  · have e := congrArg recvIdx h; dsimp only [csem, osem] at e; rw [recvIdx_recv, recvIdx_recv] at e; rw [Option.some.inj e]

theorem kcell_injective : Function.Injective (kcell : Dev nD × CI → GSem nD τ sig) := by
  rintro ⟨c, k⟩ ⟨c', k'⟩ h
  obtain rfl : c = c' := congrArg (fun g : GSem nD τ sig => g.1.1) h
  obtain rfl : k = k' := csem_injective (congrArg Prod.snd h)
  rfl
def ringCells : Finset (GSem nD τ sig) := Finset.univ.map ⟨kcell, kcell_injective⟩

/-- A device's own cells' duties: its barrier's two, one of each send and receive cell. -/
abbrev TI : Type := Bool ⊕ (Fin 12 ⊕ Fin 12)
abbrev tokOf (cj : Dev nD × TI) : GSem nD τ sig × ℕ × Bool := match cj.2 with
  | .inl b => (barCell cj.1, 0, b)
  | .inr k => (kcell (cj.1, .inr k), 0, false)
theorem tokOf_injective : Function.Injective (tokOf : Dev nD × TI → GSem nD τ sig × ℕ × Bool) := by
  rintro ⟨c, j⟩ ⟨c', j'⟩ h
  have hc := congrArg (fun x : GSem nD τ sig × ℕ × Bool => x.1.1.1) h
  have hs := congrArg (fun x : GSem nD τ sig × ℕ × Bool => x.1.2) h
  have hb := congrArg (fun x : GSem nD τ sig × ℕ × Bool => x.2.2) h
  rcases j with b | k <;> rcases j' with b' | k' <;> dsimp only [tokOf] at hc hs hb
  · rw [hc, hb]
  · exact absurd (csem_injective (a₁ := .inl ()) (a₂ := .inr k') hs) (by intro h; cases h)
  · exact absurd (csem_injective (a₁ := .inr k) (a₂ := .inl ()) hs) (by intro h; cases h)
  · rw [hc, Sum.inr.inj (csem_injective (a₁ := .inr k) (a₂ := .inr k') hs)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 true ∗ dutyTok ER (barCell c) 0 false)
    ∗ (bigSep Finset.univ fun i : Fin 12 => dutyTok ER (sendCell i c) 0 false) ∗ bigSep Finset.univ fun i : Fin 12 => dutyTok ER (recvCell i c) 0 false)

/-- What the launch element deals device `c`. -/
def G (c : Dev nD) : sProp 𝕄 :=
  iprop((bigSep Finset.univ fun k : CI => roundState ER (ringRd m ρ) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop(∃ K, records m ρ K ∗ linear c)

theorem toks_eq (c : Dev nD) : (bigSep Finset.univ fun j : TI => (dutyTok ER (tokOf (c, j)).1 (tokOf (c, j)).2.1 (tokOf (c, j)).2.2 : sProp 𝕄)) = toks c := by
  rw [bigSep_univ_sum, bigSep_univ_sum, bigSep_univ_eq_bigSepL [true, false] (by decide) (by decide), bigSepL_cons_cons, bigSepL_singleton]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop((twelve fun i => semVal (sendCell i c) 0) ∗ twelve fun i => semVal (recvCell i c) 0) := by
  unfold Pipeline.ownSems0; rw [bigSep_univ_sum, ← twelve_eq, ← twelve_eq]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_univ_sum, show (Finset.univ : Finset Unit) = {()} from rfl, bigSep_singleton]
  unfold Pipeline.ownSems0
  show _ ⊢ iprop(semVal (barCell c) 0 ∗ bigSep Finset.univ fun k : Fin 12 ⊕ Fin 12 => semVal (kcell (c, .inr k)) 0)
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Where a transfer's target is, as a permutation of the devices. -/
def tgtE (i : Fin 12) : Dev nD ≃ Dev nD := ⟨tgt i, org i, org_tgt i, tgt_org i⟩

/-- The tokens of the duties device `c` pays. -/
def payToks (c : Dev nD) : sProp 𝕄 :=
  iprop(dutyTok ER (barCell (prv c)) 0 true ∗ dutyTok ER (barCell (nxt c)) 0 false ∗ bigSep Finset.univ fun i : Fin 12 => fuel i c)

/-- The tokens dealt around the ring: each to the device that pays the duty. -/
theorem toks_around : (bigSep Finset.univ fun c : Dev nD => (toks c : sProp 𝕄)) ⊢ bigSep Finset.univ fun c : Dev nD => payToks c := by
  have hR : (bigSep Finset.univ fun c : Dev nD => bigSep Finset.univ fun i : Fin 12 => (dutyTok ER (recvCell i c) 0 false : sProp 𝕄))
      = bigSep Finset.univ fun c : Dev nD => bigSep Finset.univ fun i : Fin 12 => dutyTok ER (recvCell i (tgt i c)) 0 false := by
    rw [BI.bigSep_univ_comm, BI.bigSep_univ_comm (fun (c : Dev nD) (i : Fin 12) => (dutyTok ER (recvCell i (tgt i c)) 0 false : sProp 𝕄))]
    exact bigSep_congr fun i _ => bigSep_univ_equiv (tgtE i) fun c : Dev nD => (dutyTok ER (recvCell i c) 0 false : sProp 𝕄)
  unfold toks payToks fuel
  simp only [bigSep_sep']
  rw [hR, bigSep_univ_equiv ring.symm (fun c : Dev nD => (dutyTok ER (barCell c) 0 true : sProp 𝕄)),
    bigSep_univ_equiv ring (fun c : Dev nD => (dutyTok ER (barCell c) 0 false : sProp 𝕄))]
  iintro ⟨⟨H1, H2⟩, H3, H4⟩
  isplitl [H1]; · iexact H1
  isplitl [H2]; · iexact H2
  isplitl [H3]; · iexact H3
  iexact H4

theorem atPos_eq (c : Dev nD) : (bigSep Finset.univ fun k : CI => (atPos ER (kcell (c, k)) 0 ∅ 0 : sProp 𝕄))
    = iprop(atPos ER (barCell c) 0 ∅ 0 ∗ (bigSep Finset.univ fun i : Fin 12 => wantS i c) ∗ bigSep Finset.univ fun i : Fin 12 => atPos ER (recvCell i c) 0 ∅ 0) := by
  rw [bigSep_univ_sum, bigSep_univ_sum, show (Finset.univ : Finset Unit) = {()} from rfl, bigSep_singleton]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (ringRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd m ρ) κ (kcell ck) : sProp 𝕄))) $$ HI
  icases HK with ⟨%K, #HI⟩
  ihave Htk := (toks_around (F := F)) $$ Htok
  iapply (with_persistent (R := records m ρ K) (Φ := fun c => linear c) fun c _ => (by
    unfold G'
    iintro H
    iexists K
    iexact H : iprop(records m ρ K ∗ linear c) ⊢ G' m ρ c))
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ linear c from Entails.of_eq (by unfold linear; rw [atPos_eq]; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨H0, H1, H2, Hy, Hz, HzB⟩
  isplitl [HzB]; · iexact HzB
  isplitl [Hy Hz]
  · isplitl [Hy] <;> iassumption
  isplitl [H0]; · iexists _; iexact H0
  isplitl [H1]; · iexists _; iexact H1
  iexists _; iexact H2

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair run of the four devices ends, each window's array at its computed
    contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they started. -/
theorem finalA_0 (c : Dev nD) : finalA m ρ c (0 : Fin 4) = m ((c : Thread nD τ).loc main_arg0) := (dats (F := F) m ρ 0 c).arrAt_in (0 : Fin 4) rfl _
theorem finalA_1 (c : Dev nD) : finalA m ρ c (1 : Fin 4) = m ((c : Thread nD τ).loc main_arg1) := (dats (F := F) m ρ 0 c).arrAt_in (1 : Fin 4) rfl _
theorem finalA_2 (c : Dev nD) : finalA m ρ c (2 : Fin 4) = m ((c : Thread nD τ).loc main_arg2) := (dats (F := F) m ρ 0 c).arrAt_in (2 : Fin 4) rfl _

end Cert.KernelIdealProof

end
-- ==== Proof.Value.Softmax.lean ====
/-
# The mathematics: a row of attention, with and without the row's maximum

Over the extended reals, with real scores `s j` and any values `v j`:
`(Σ exp (s j) · v j) / Σ exp (s j)` is `Σ (exp (s j − M) / Σ exp (s j − M)) · v j` for every real `M`.
-/
module

public import Idealize.ShloMosaic.PureOps.Ideal
public import Idealize.ShloMosaic.PureOps.Ideal.Laws

@[expose] public section

noncomputable section

namespace Cert.ValueProof

open Idealize.ShloMosaic
open scoped BigOperators

/-- A real factor that is not negative moves into a sum of extended reals. -/
theorem sum_mul_real {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A sum of reals, taken among the extended reals. -/
theorem coe_sum {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The greatest of finitely many reals, and of at least one, is a real. -/
theorem fold_max_real {ι : Type} (s : Finset ι) (f : ι → ℝ) (hs : s.Nonempty) :
    ∃ M : ℝ, s.fold max (⊥ : EReal) (fun j => (f j : EReal)) = (M : EReal) := by
  have ht : s.fold max (⊥ : EReal) (fun j => (f j : EReal)) < ⊤ :=
    (Finset.fold_max_lt (b := (⊥ : EReal)) _).mpr ⟨bot_lt_top, fun j _ => EReal.coe_lt_top _⟩
  have hb : ⊥ < s.fold max (⊥ : EReal) (fun j => (f j : EReal)) := by
    obtain ⟨j, hj⟩ := hs
    exact (Finset.lt_fold_max (b := (⊥ : EReal)) _).mpr (.inr ⟨j, hj, EReal.bot_lt_coe _⟩)
  exact ⟨_, (EReal.coe_toReal ht.ne hb.ne').symm⟩

/-- One row: the unnormalised sum divided at the end, against weights that are shifted by any real
`M` and normalised before they meet the values. -/
theorem row {ι : Type} [Fintype ι] [Nonempty ι] (s : ι → ℝ) (v : ι → EReal) (M : ℝ) :
    Ideal.div (∑ j, Ideal.exp (s j) * v j) (∑ j, Ideal.exp (s j))
      = ∑ j, Ideal.div (Ideal.exp ((s j : EReal) - (M : EReal))) (∑ i, Ideal.exp ((s i : EReal) - (M : EReal))) * v j := by
  have hL : 0 < ∑ j, Real.exp (s j) := Finset.sum_pos (fun j _ => Real.exp_pos _) Finset.univ_nonempty
  have hL' : 0 < ∑ j, Real.exp (s j - M) := Finset.sum_pos (fun j _ => Real.exp_pos _) Finset.univ_nonempty
  have e1 : ∑ j, Ideal.exp (s j : EReal) = ((∑ j, Real.exp (s j) : ℝ) : EReal) := coe_sum _ _
  have e2 : ∑ j, Ideal.exp ((s j : EReal) - (M : EReal)) = ((∑ j, Real.exp (s j - M) : ℝ) : EReal) := by
    rw [← coe_sum]
    exact Finset.sum_congr rfl fun j _ => by rw [← EReal.coe_sub, Ideal.exp_coe]
  have e3 : ∑ j, Real.exp (s j - M) = Real.exp (-M) * ∑ j, Real.exp (s j) := by
    rw [Finset.mul_sum]
    exact Finset.sum_congr rfl fun j _ => by rw [← Real.exp_add]; congr 1; ring
  rw [e1, e2, Ideal.div_coe hL.ne', sum_mul_real _ _ _ (one_div_pos.mpr hL).le]
  refine Finset.sum_congr rfl fun j _ => ?_
  rw [Ideal.div_coe hL'.ne', ← EReal.coe_sub, Ideal.exp_coe, Ideal.exp_coe, mul_right_comm, ← EReal.coe_mul, ← EReal.coe_mul]
  congr 2
  rw [e3, show s j - M = -M + s j by ring, Real.exp_add]
  have hM := (Real.exp_pos (-M)).ne'
  field_simp

/-- The score of two real rows: the scale at the left factor, or at the end. -/
theorem score_real {n : ℕ} (a b : Fin n → ℝ) (c : ℝ) :
    ∑ d, ((a d : EReal) * (c : EReal)) * (b d : EReal) = (((∑ d, a d * b d) * c : ℝ) : EReal) := by
  rw [Finset.sum_mul, ← coe_sum]
  exact Finset.sum_congr rfl fun d _ => by rw [← EReal.coe_mul, ← EReal.coe_mul]; congr 1; ring

end Cert.ValueProof

end
-- ==== Proof.Value.Payloads.lean ====
/-
# What one block of keys adds

Each payload of the kernel at an index: the sum of the exponentials of a query row's scores against a
block of keys, and the sum of the values weighted by them; and the division at the end.
-/
module

public import proofs.«01_k».proof.Proof.Gen.KernelIdeal.Skeleton
public import proofs.«01_k».proof.Proof.Value.Softmax
public import Idealize.ShloMosaic.Lib.MatmulPlain
public import Idealize.ShloMosaic.Lib.ValueLayout
public import Idealize.ShloMosaic.Lib.ValueLayoutCasts
public import Idealize.ShloMosaic.Lib.Pointwise

@[expose] public section

noncomputable section

namespace Cert.ValueProof

open Idealize.ShloMosaic hiding ix1 ix2 ix3
open Idealize.ShloMosaic.ValueIdx
open Cert.KernelIdeal Cert.KernelIdeal.Gen
open scoped BigOperators

/-- The named scale, `1/√512`. -/
def scale : EReal := (((Real.sqrt 512)⁻¹ : ℝ) : EReal)

/-- The score of a query row against a key row, the query scaled. -/
def score (a b : Fin 512 → EReal) : EReal := ∑ d, (a d * scale) * b d

/-- The exponentials of a row's scores against `n` keys, summed. -/
def sumE {n : ℕ} (a : Fin 512 → EReal) (kk : Fin n → Fin 512 → EReal) : EReal := ∑ j, Ideal.exp (score a (kk j))

/-- The values of `n` keys weighted by the exponentials of a row's scores, summed. -/
def sumV {n : ℕ} (a : Fin 512 → EReal) (kk : Fin n → Fin 512 → EReal) (w : Fin n → EReal) : EReal :=
  ∑ j, Ideal.exp (score a (kk j)) * w j

/-- The splat of the zero pattern reads zero. -/
theorem zero_apply {s : Shape} (j : s.Idx) : (constant (F := Ideal) s .f32 0x00000000#32) j = (0 : EReal) :=
  Ideal.ofBits_zero_f32

/-- The named constant reads the scale. -/
theorem named_scale : (Named.named (F := Ideal) κ "inv_sqrt_d" (φ := .bf16) 0x3D35#16 : EReal) = scale := rfl

/-- `k0_pay1` at an index: the exponential of the score. -/
theorem pay1_apply (k : Vec Ideal S4096x512 .bf16) (q : Vec Ideal S256x512 .bf16) (i : Fin 256) (j : Fin 4096) :
    k0_pay1 (F := Ideal) k q (ix2 i j) = Ideal.exp (score (fun d => q (ix2 i d)) (fun d => k (ix2 j d))) := by
  refine congrArg Ideal.exp ((Ideal.matmul_transposedRhs_apply (M := 256) (K := 512) (N := 4096) none _ _ _ i j).trans ?_)
  rw [zero_apply, zero_add]
  refine Finset.sum_congr rfl fun d _ => ?_
  rw [shapeCast_id, shapeCast_id]
  rfl

/-- `k0_pay6` at an index: the exponential of the score. -/
theorem pay6_apply (k : Vec Ideal S2048x512 .bf16) (q : Vec Ideal S256x512 .bf16) (i : Fin 256) (j : Fin 2048) :
    k0_pay6 (F := Ideal) k q (ix2 i j) = Ideal.exp (score (fun d => q (ix2 i d)) (fun d => k (ix2 j d))) := by
  refine congrArg Ideal.exp ((Ideal.matmul_transposedRhs_apply (M := 256) (K := 512) (N := 2048) none _ _ _ i j).trans ?_)
  rw [zero_apply, zero_add]
  refine Finset.sum_congr rfl fun d _ => ?_
  rw [shapeCast_id]
  rfl

/-- A row sum kept as a column, read at an index. -/
theorem rowsum_apply {n : ℕ} (x : FVec Ideal ⟨2, ![256, n]⟩ .f32) (h : (⟨2, ![256, n]⟩ : Shape).Reduces [1] S256) (i : Fin 256) (u : Fin 1) :
    shapeCast S256x1 (multiReduction (F := Ideal) .add [1] S256 x 0x00000000#32 h (.inl rfl) rfl) shapeCasts_S256_S256x1 (ix2 i u)
      = ∑ j : Fin n, x (ix2 i j) := by
  refine (shapeCast_a_a1_apply (a := 256) _ _ i u).trans ?_
  exact Ideal.reduceAdd_r2_a1 h x (ix1 i)

/-- `k0_pay3` at an index: the sum over the device's own keys. -/
theorem pay3_apply (k : Vec Ideal S4096x512 .bf16) (q : Vec Ideal S256x512 .bf16) (i : Fin 256) (u : Fin 1) :
    k0_pay3 (F := Ideal) k q (ix2 i u) = sumE (fun d => q (ix2 i d)) (fun j d => k (ix2 j d)) := by
  unfold k0_pay3
  rw [shapeCast_id]
  refine (rowsum_apply _ _ i u).trans (Finset.sum_congr rfl fun j _ => pay1_apply k q i j)

/-- `k0_pay2` at an index: the weighted sum over the device's own keys. -/
theorem pay2_apply (k v : Vec Ideal S4096x512 .bf16) (q : Vec Ideal S256x512 .bf16) (i : Fin 256) (e : Fin 512) :
    k0_pay2 (F := Ideal) k v q (ix2 i e) = sumV (fun d => q (ix2 i d)) (fun j d => k (ix2 j d)) (fun j => v (ix2 j e)) := by
  refine (Ideal.matmul_plain_apply (M := 256) (K := 4096) (N := 512) none _ _ _ i e).trans ?_
  rw [zero_apply, zero_add]
  refine Finset.sum_congr rfl fun j _ => ?_
  rw [shapeCast_id]
  exact congrArg (· * _) (pay1_apply k q i j)

/-- `k0_pay7` at an index: what was there, plus the sum over half a block. -/
theorem pay7_apply (k : Vec Ideal S2048x512 .bf16) (q : Vec Ideal S256x512 .bf16) (l : Vec Ideal S256x1 .f32) (i : Fin 256) (u : Fin 1) :
    k0_pay7 (F := Ideal) k q l (ix2 i u) = l (ix2 i u) + sumE (fun d => q (ix2 i d)) (fun j d => k (ix2 j d)) := by
  unfold k0_pay7
  rw [shapeCast_id]
  exact congrArg (l (ix2 i u) + ·) ((rowsum_apply _ _ i u).trans (Finset.sum_congr rfl fun j _ => pay6_apply k q i j))

/-- `k0_pay8` at an index: what was there, plus the weighted sum over half a block. -/
theorem pay8_apply (k v : Vec Ideal S2048x512 .bf16) (q : Vec Ideal S256x512 .bf16) (o : Vec Ideal S256x512 .f32) (i : Fin 256) (e : Fin 512) :
    k0_pay8 (F := Ideal) k v q o (ix2 i e)
      = o (ix2 i e) + sumV (fun d => q (ix2 i d)) (fun j d => k (ix2 j d)) (fun j => v (ix2 j e)) := by
  unfold k0_pay8
  rw [shapeCast_id]
  refine congrArg (o (ix2 i e) + ·) ((Ideal.matmul_plain_apply (M := 256) (K := 2048) (N := 512) none _ _ _ i e).trans ?_)
  rw [zero_apply, zero_add]
  refine Finset.sum_congr rfl fun j _ => ?_
  exact congrArg (· * _) (pay6_apply k q i j)

/-- The half of a slot read without its leading axis. -/
theorem half_apply (x : Vec Ideal S1x2048x512 .bf16) (j : Fin 2048) (d : Fin 512) :
    k0_pay4 (F := Ideal) x (ix2 j d) = x (ix3 (0 : Fin 1) j d) :=
  shapeCast_1ab_ab_apply x _ j d

/-- A whole slot read without its leading axis. -/
def whole (x : Vec Ideal S1x4096x512 .bf16) : Vec Ideal S4096x512 .bf16 :=
  shapeCast S4096x512 x shapeCasts_S1x4096x512_S4096x512

theorem whole_apply (x : Vec Ideal S1x4096x512 .bf16) (j : Fin 4096) (d : Fin 512) :
    whole x (ix2 j d) = x (ix3 (0 : Fin 1) j d) :=
  shapeCast_1ab_ab_apply x _ j d

/-- `k0_pay20` at an index: the exponential of the score. -/
theorem pay20_apply (k : Vec Ideal S1x4096x512 .bf16) (q : Vec Ideal S256x512 .bf16) (i : Fin 256) (j : Fin 4096) :
    k0_pay20 (F := Ideal) k q (ix2 i j) = Ideal.exp (score (fun d => q (ix2 i d)) (fun d => whole k (ix2 j d))) := by
  refine congrArg Ideal.exp ((Ideal.matmul_transposedRhs_apply (M := 256) (K := 512) (N := 4096) none _ _ _ i j).trans ?_)
  rw [zero_apply, zero_add]
  refine Finset.sum_congr rfl fun d _ => ?_
  rw [shapeCast_id]
  rfl

/-- `k0_pay21` at an index: what was there, plus the sum over a block. -/
theorem pay21_apply (k : Vec Ideal S1x4096x512 .bf16) (q : Vec Ideal S256x512 .bf16) (l : Vec Ideal S256x1 .f32) (i : Fin 256) (u : Fin 1) :
    k0_pay21 (F := Ideal) k q l (ix2 i u) = l (ix2 i u) + sumE (fun d => q (ix2 i d)) (fun j d => whole k (ix2 j d)) := by
  unfold k0_pay21
  rw [shapeCast_id]
  exact congrArg (l (ix2 i u) + ·) ((rowsum_apply _ _ i u).trans (Finset.sum_congr rfl fun j _ => pay20_apply k q i j))

/-- `k0_pay22` at an index: what was there, plus the weighted sum over a block. -/
theorem pay22_apply (k v : Vec Ideal S1x4096x512 .bf16) (q : Vec Ideal S256x512 .bf16) (o : Vec Ideal S256x512 .f32) (i : Fin 256) (e : Fin 512) :
    k0_pay22 (F := Ideal) k v q o (ix2 i e)
      = o (ix2 i e) + sumV (fun d => q (ix2 i d)) (fun j d => whole k (ix2 j d)) (fun j => whole v (ix2 j e)) := by
  unfold k0_pay22
  rw [shapeCast_id]
  refine congrArg (o (ix2 i e) + ·) ((Ideal.matmul_plain_apply (M := 256) (K := 4096) (N := 512) none _ _ _ i e).trans ?_)
  rw [zero_apply, zero_add]
  refine Finset.sum_congr rfl fun j _ => ?_
  exact congrArg (· * _) (pay20_apply k q i j)

/-- `k0_pay23` at an index: the weighted sum over the sum of the weights. -/
theorem pay23_apply (o : Vec Ideal S256x512 .f32) (l : Vec Ideal S256x1 .f32) (i : Fin 256) (e : Fin 512) :
    k0_pay23 (F := Ideal) o l (ix2 i e) = Ideal.div (o (ix2 i e)) (l (ix2 i (0 : Fin 1))) := by
  unfold k0_pay23
  rw [shapeCast_id]
  refine congrArg (Ideal.div (o (ix2 i e))) ?_
  refine congrArg l (funext fun a => ?_)
  match a with
  | ⟨0, _⟩ => rfl
  | ⟨1, _⟩ => rfl

end Cert.ValueProof

end
-- ==== Proof.Value.Blocks.lean ====
/-
# What the arrays hold

The row sums and the accumulator of device `c` after the six loops, at an index: the sums over the
device's own block of keys and the three blocks that reached it.
-/
module

public import proofs.«01_k».proof.Proof.KernelIdeal.Chain
public import proofs.«01_k».proof.Proof.Value.Payloads

@[expose] public section

noncomputable section

namespace Cert.ValueProof

open Idealize.ShloMosaic hiding ix1 ix2 ix3
open Idealize.ShloMosaic.TcCoe
open Idealize.ShloMosaic.ValueIdx
open Cert.KernelIdeal Cert.KernelIdeal.Gen Cert.KernelIdealProof
open scoped BigOperators

variable (m : (ℓ : Loc nD τ sig) → Buf (Elt Ideal) ℓ) (ρ : Dev nD → PrngReg)

/-- The block of 256 rows a row lies in, and its place there. -/
def blkOf (r : Fin 4096) : Fin 16 := ⟨r.val / 256, by have := r.isLt; omega⟩
def remOf (r : Fin 4096) : Fin 256 := ⟨r.val % 256, Nat.mod_lt _ (by decide)⟩

theorem rB_row (r : Fin 4096) (e : Fin 512) : (rB (blkOf r)).emb (ix2 (remOf r) e) = (ix2 r e : S4096x512.Idx) := by
  obtain ⟨h0, h1⟩ := rB_emb (blkOf r) (ix2 (remOf r) e) _ rfl
  funext a; apply Fin.ext
  match a with
  | ⟨0, _⟩ => exact h0.trans (by show 256 * (r.val / 256) + r.val % 256 = r.val; omega)
  | ⟨1, _⟩ => exact h1
theorem rB1_row (r : Fin 4096) (u : Fin 1) : (rB1 (blkOf r)).emb (ix2 (remOf r) u) = (ix2 r u : S4096x1.Idx) := by
  obtain ⟨h0, h1⟩ := rB1_emb (blkOf r) (ix2 (remOf r) u) _ rfl
  funext a; apply Fin.ext
  match a with
  | ⟨0, _⟩ => exact h0.trans (by show 256 * (r.val / 256) + r.val % 256 = r.val; omega)
  | ⟨1, _⟩ => exact h1

theorem rdQ_row (x : (cc0_stg0_0 : Ref sig .tc).ty.Contents (Elt Ideal)) (r : Fin 4096) (e : Fin 512) :
    rdQ (F := Ideal) (blkOf r) x (ix2 (remOf r) e) = x (ix2 r e : S4096x512.Idx) := congrArg x (rB_row r e)
/-- An array of 4096 rows at an index, as a number. -/
def rowO (x : (cc0_stg3_0 : Ref sig .tc).ty.Contents (Elt Ideal)) (r : Fin 4096) (e : Fin 512) : EReal := x (ix2 r e : S4096x512.Idx)
def rowL (x : (cc0_scratch2 : Ref sig .tc).ty.Contents (Elt Ideal)) (r : Fin 4096) (u : Fin 1) : EReal := x (ix2 r u : S4096x1.Idx)

theorem rdO_row (x : (cc0_stg3_0 : Ref sig .tc).ty.Contents (Elt Ideal)) (r : Fin 4096) (e : Fin 512) :
    rdO (F := Ideal) (blkOf r) x (ix2 (remOf r) e) = rowO x r e := congrArg x (rB_row r e)
theorem rdL_row (x : (cc0_scratch2 : Ref sig .tc).ty.Contents (Elt Ideal)) (r : Fin 4096) (u : Fin 1) :
    rdL (F := Ideal) (blkOf r) x (ix2 (remOf r) u) = rowL x r u := congrArg x (rB1_row r u)

theorem glueO_row (f : Fin 16 → Vec Ideal S256x512 .f32) (r : Fin 4096) (e : Fin 512) :
    rowO (glueO f) r e = f (blkOf r) (ix2 (remOf r) e) := rfl
theorem glueL_row (f : Fin 16 → Vec Ideal S256x1 .f32) (r : Fin 4096) (u : Fin 1) :
    rowL (glueL f) r u = f (blkOf r) (ix2 (remOf r) u) := rfl

/-- The first half of 4096 rows, and the second. -/
def lo (j : Fin 2048) : Fin 4096 := ⟨j.val, by have := j.isLt; omega⟩
def hi (j : Fin 2048) : Fin 4096 := ⟨2048 + j.val, by have := j.isLt; omega⟩

theorem sum_halves (f : Fin 4096 → EReal) : (∑ j, f (lo j)) + ∑ j, f (hi j) = ∑ j, f j :=
  (Fin.sum_univ_add (a := 2048) (b := 2048) f).symm

/-- A query row, a device's keys and one column of its values. -/
def qrow (c : Dev nD) (r : Fin 4096) : Fin 512 → EReal := fun d => qst m ρ c (ix2 r d : S4096x512.Idx)
def keys (c : Dev nD) : Fin 4096 → Fin 512 → EReal := fun j d => kst m ρ c (ix2 j d : S4096x512.Idx)
def vals (c : Dev nD) (e : Fin 512) : Fin 4096 → EReal := fun j => vst m ρ c (ix2 j e : S4096x512.Idx)

/-- A slot's index: the slot, the row past the offset, the column. -/
theorem slot_row (s o : ℕ) (h) (j : Fin 2048) (d : Fin 512) (hs : s < 3) (hj : o + j.val < 4096) :
    (slotR s o h).emb (ix3 (0 : Fin 1) j d) = (ix3 (⟨s, hs⟩ : Fin 3) (⟨o + j.val, hj⟩ : Fin 4096) d : S3x4096x512.Idx) := by
  funext a; apply Fin.ext
  refine (unit_emb _ _ _ _ a).trans ?_
  match a with
  | ⟨0, _⟩ => rfl
  | ⟨1, _⟩ => rfl
  | ⟨2, _⟩ => exact Nat.zero_add _
theorem slot2_row (h) (j : Fin 4096) (d : Fin 512) :
    (Rect.unit (s := S3x4096x512) ![2, 0, 0] S1x4096x512.size h).emb (ix3 (0 : Fin 1) j d) = (ix3 (2 : Fin 3) j d : S3x4096x512.Idx) := by
  funext a; apply Fin.ext
  refine (unit_emb _ _ _ _ a).trans ?_
  match a with
  | ⟨0, _⟩ => rfl
  | ⟨1, _⟩ => exact Nat.zero_add _
  | ⟨2, _⟩ => exact Nat.zero_add _

/-- Position `0 + j` of a slot is the first half's row `j`. -/
theorem zero_lo (j : Fin 2048) (h : 0 + j.val < 4096) : (⟨0 + j.val, h⟩ : Fin 4096) = lo j := Fin.ext (Nat.zero_add _)

/-- A piece of the keys' landing buffer: half a block of the device whose block the slot receives; -/
theorem keys_at (s o : ℕ) (h) (c : Dev nD) (j : Fin 2048) (d : Fin 512) (hs : s < 3) (hj : o + j.val < 4096) :
    k0_pay4 (F := Ideal) (ckM.view.readAt (Elt Ideal) (slotR s o h).toLoadRect (CK m ρ c)) (ix2 j d) = keys m ρ (peer ⟨s, hs⟩ c) ⟨o + j.val, hj⟩ d :=
  (half_apply _ j d).trans (congrArg (CK m ρ c) (slot_row s o h j d hs hj))
/-- and of the values'. -/
theorem vals_at (s o : ℕ) (h) (c : Dev nD) (j : Fin 2048) (d : Fin 512) (hs : s < 3) (hj : o + j.val < 4096) :
    k0_pay4 (F := Ideal) (cvM.view.readAt (Elt Ideal) (slotR s o h).toLoadRect (CV m ρ c)) (ix2 j d) = vals m ρ (peer ⟨s, hs⟩ c) d ⟨o + j.val, hj⟩ :=
  (half_apply _ j d).trans (congrArg (CV m ρ c) (slot_row s o h j d hs hj))

theorem k00_row (c : Dev nD) (j : Fin 2048) (d : Fin 512) : k0_pay4 (F := Ideal) (k00 m ρ c) (ix2 j d) = keys m ρ (prv c) (lo j) d :=
  (keys_at m ρ 0 0 _ c j d (by decide) (by have := j.isLt; omega)).trans (by rw [zero_lo]; rfl)
theorem v00_row (c : Dev nD) (j : Fin 2048) (d : Fin 512) : k0_pay4 (F := Ideal) (v00 m ρ c) (ix2 j d) = vals m ρ (prv c) d (lo j) :=
  (vals_at m ρ 0 0 _ c j d (by decide) (by have := j.isLt; omega)).trans (by rw [zero_lo]; rfl)
theorem k01_row (c : Dev nD) (j : Fin 2048) (d : Fin 512) : k0_pay4 (F := Ideal) (k01 m ρ c) (ix2 j d) = keys m ρ (prv c) (hi j) d :=
  keys_at m ρ 0 2048 _ c j d (by decide) (by have := j.isLt; omega)
theorem v01_row (c : Dev nD) (j : Fin 2048) (d : Fin 512) : k0_pay4 (F := Ideal) (v01 m ρ c) (ix2 j d) = vals m ρ (prv c) d (hi j) :=
  vals_at m ρ 0 2048 _ c j d (by decide) (by have := j.isLt; omega)
theorem k10_row (c : Dev nD) (j : Fin 2048) (d : Fin 512) : k0_pay4 (F := Ideal) (k10 m ρ c) (ix2 j d) = keys m ρ (nxt c) (lo j) d :=
  (keys_at m ρ 1 0 _ c j d (by decide) (by have := j.isLt; omega)).trans (by rw [zero_lo]; rfl)
theorem v10_row (c : Dev nD) (j : Fin 2048) (d : Fin 512) : k0_pay4 (F := Ideal) (v10 m ρ c) (ix2 j d) = vals m ρ (nxt c) d (lo j) :=
  (vals_at m ρ 1 0 _ c j d (by decide) (by have := j.isLt; omega)).trans (by rw [zero_lo]; rfl)
theorem k11_row (c : Dev nD) (j : Fin 2048) (d : Fin 512) : k0_pay4 (F := Ideal) (k11 m ρ c) (ix2 j d) = keys m ρ (nxt c) (hi j) d :=
  keys_at m ρ 1 2048 _ c j d (by decide) (by have := j.isLt; omega)
theorem v11_row (c : Dev nD) (j : Fin 2048) (d : Fin 512) : k0_pay4 (F := Ideal) (v11 m ρ c) (ix2 j d) = vals m ρ (nxt c) d (hi j) :=
  vals_at m ρ 1 2048 _ c j d (by decide) (by have := j.isLt; omega)
theorem k2_row (c : Dev nD) (j : Fin 4096) (d : Fin 512) : whole (k2 m ρ c) (ix2 j d) = keys m ρ (nxt (nxt c)) j d :=
  (whole_apply _ j d).trans (congrArg (CK m ρ c) (slot2_row _ j d))
theorem v2_row (c : Dev nD) (j : Fin 4096) (d : Fin 512) : whole (v2 m ρ c) (ix2 j d) = vals m ρ (nxt (nxt c)) d j :=
  (whole_apply _ j d).trans (congrArg (CV m ρ c) (slot2_row _ j d))

/-! ## Loop by loop -/

/-- The sums over all of device `p`'s keys, and over either half. -/
def E (c p : Dev nD) (r : Fin 4096) : EReal := sumE (qrow m ρ c r) (keys m ρ p)
def EL (c p : Dev nD) (r : Fin 4096) : EReal := sumE (qrow m ρ c r) (fun j => keys m ρ p (lo j))
def EH (c p : Dev nD) (r : Fin 4096) : EReal := sumE (qrow m ρ c r) (fun j => keys m ρ p (hi j))
def V (c p : Dev nD) (r : Fin 4096) (e : Fin 512) : EReal := sumV (qrow m ρ c r) (keys m ρ p) (vals m ρ p e)
def VL (c p : Dev nD) (r : Fin 4096) (e : Fin 512) : EReal := sumV (qrow m ρ c r) (fun j => keys m ρ p (lo j)) (fun j => vals m ρ p e (lo j))
def VH (c p : Dev nD) (r : Fin 4096) (e : Fin 512) : EReal := sumV (qrow m ρ c r) (fun j => keys m ρ p (hi j)) (fun j => vals m ρ p e (hi j))

theorem EL_EH (c p : Dev nD) (r : Fin 4096) : EL m ρ c p r + EH m ρ c p r = E m ρ c p r :=
  sum_halves fun j => Ideal.exp (score (qrow m ρ c r) (keys m ρ p j))
theorem VL_VH (c p : Dev nD) (r : Fin 4096) (e : Fin 512) : VL m ρ c p r e + VH m ρ c p r e = V m ρ c p r e :=
  sum_halves fun j => Ideal.exp (score (qrow m ρ c r) (keys m ρ p j)) * vals m ρ p e j

theorem q_row (c : Dev nD) (r : Fin 4096) : (fun d => rdQ (F := Ideal) (blkOf r) (qst m ρ c) (ix2 (remOf r) d)) = qrow m ρ c r :=
  funext fun d => rdQ_row _ r d

theorem l1_row (c : Dev nD) (r : Fin 4096) (u : Fin 1) : rowL (l1 m ρ c) r u = E m ρ c c r := by
  refine (glueL_row _ r u).trans ((pay3_apply _ _ _ u).trans ?_)
  rw [q_row]; rfl
theorem o1_row (c : Dev nD) (r : Fin 4096) (e : Fin 512) : rowO (o1 m ρ c) r e = V m ρ c c r e := by
  refine (glueO_row _ r e).trans ((pay2_apply _ _ _ _ e).trans ?_)
  rw [q_row]; rfl

/-- A loop over half of device `p`'s keys adds the half's sum to the row sums, -/
theorem stepL (k : Vec Ideal S1x2048x512 .bf16) (l : (cc0_scratch2 : Ref sig .tc).ty.Contents (Elt Ideal)) (c p : Dev nD) (half : Fin 2048 → Fin 4096)
    (hk : ∀ j d, k0_pay4 (F := Ideal) k (ix2 j d) = keys m ρ p (half j) d) (r : Fin 4096) (u : Fin 1) :
    rowL (glueL fun n => k0_pay7 (F := Ideal) (k0_pay4 k) (rdQ n (qst m ρ c)) (rdL n l)) r u
      = rowL l r u + sumE (qrow m ρ c r) (fun j => keys m ρ p (half j)) := by
  refine (glueL_row _ r u).trans ((pay7_apply (k0_pay4 k) _ _ _ u).trans ?_)
  rw [q_row, rdL_row]
  exact congrArg (_ + ·) (congrArg (sumE _) (funext fun j => funext fun d => hk j d))
/-- and the half's weighted sum to the accumulator. -/
theorem stepO (k v : Vec Ideal S1x2048x512 .bf16) (o : (cc0_stg3_0 : Ref sig .tc).ty.Contents (Elt Ideal)) (c p : Dev nD) (half : Fin 2048 → Fin 4096)
    (hk : ∀ j d, k0_pay4 (F := Ideal) k (ix2 j d) = keys m ρ p (half j) d) (hv : ∀ j d, k0_pay4 (F := Ideal) v (ix2 j d) = vals m ρ p d (half j))
    (r : Fin 4096) (e : Fin 512) :
    rowO (glueO fun n => k0_pay8 (F := Ideal) (k0_pay4 k) (k0_pay4 v) (rdQ n (qst m ρ c)) (rdO n o)) r e
      = rowO o r e + sumV (qrow m ρ c r) (fun j => keys m ρ p (half j)) (fun j => vals m ρ p e (half j)) := by
  refine (glueO_row _ r e).trans ((pay8_apply (k0_pay4 k) (k0_pay4 v) _ _ _ e).trans ?_)
  rw [q_row, rdO_row]
  exact congrArg (_ + ·) (congrArg₂ (sumV _) (funext fun j => funext fun d => hk j d) (funext fun j => hv j e))

theorem l2_row (c : Dev nD) (r : Fin 4096) (u : Fin 1) : rowL (l2 m ρ c) r u = rowL (l1 m ρ c) r u + EL m ρ c (prv c) r :=
  stepL m ρ (k00 m ρ c) (l1 m ρ c) c (prv c) lo (k00_row m ρ c) r u
theorem o2_row (c : Dev nD) (r : Fin 4096) (e : Fin 512) : rowO (o2 m ρ c) r e = rowO (o1 m ρ c) r e + VL m ρ c (prv c) r e :=
  stepO m ρ (k00 m ρ c) (v00 m ρ c) (o1 m ρ c) c (prv c) lo (k00_row m ρ c) (v00_row m ρ c) r e
theorem l3_row (c : Dev nD) (r : Fin 4096) (u : Fin 1) : rowL (l3 m ρ c) r u = rowL (l2 m ρ c) r u + EH m ρ c (nxt c) r :=
  stepL m ρ (k11 m ρ c) (l2 m ρ c) c (nxt c) hi (k11_row m ρ c) r u
theorem o3_row (c : Dev nD) (r : Fin 4096) (e : Fin 512) : rowO (o3 m ρ c) r e = rowO (o2 m ρ c) r e + VH m ρ c (nxt c) r e :=
  stepO m ρ (k11 m ρ c) (v11 m ρ c) (o2 m ρ c) c (nxt c) hi (k11_row m ρ c) (v11_row m ρ c) r e
theorem l4_row (c : Dev nD) (r : Fin 4096) (u : Fin 1) : rowL (l4 m ρ c) r u = rowL (l3 m ρ c) r u + EH m ρ c (prv c) r :=
  stepL m ρ (k01 m ρ c) (l3 m ρ c) c (prv c) hi (k01_row m ρ c) r u
theorem o4_row (c : Dev nD) (r : Fin 4096) (e : Fin 512) : rowO (o4 m ρ c) r e = rowO (o3 m ρ c) r e + VH m ρ c (prv c) r e :=
  stepO m ρ (k01 m ρ c) (v01 m ρ c) (o3 m ρ c) c (prv c) hi (k01_row m ρ c) (v01_row m ρ c) r e
theorem l5_row (c : Dev nD) (r : Fin 4096) (u : Fin 1) : rowL (l5 m ρ c) r u = rowL (l4 m ρ c) r u + EL m ρ c (nxt c) r :=
  stepL m ρ (k10 m ρ c) (l4 m ρ c) c (nxt c) lo (k10_row m ρ c) r u
theorem o5_row (c : Dev nD) (r : Fin 4096) (e : Fin 512) : rowO (o5 m ρ c) r e = rowO (o4 m ρ c) r e + VL m ρ c (nxt c) r e :=
  stepO m ρ (k10 m ρ c) (v10 m ρ c) (o4 m ρ c) c (nxt c) lo (k10_row m ρ c) (v10_row m ρ c) r e

theorem l6_row (c : Dev nD) (r : Fin 4096) (u : Fin 1) :
    rowL (l6 m ρ c) r u = rowL (l5 m ρ c) r u + E m ρ c (nxt (nxt c)) r := by
  refine (glueL_row _ r u).trans ((pay21_apply (k2 m ρ c) _ _ _ u).trans ?_)
  rw [q_row, rdL_row]
  refine congrArg (_ + ·) (congrArg (sumE _) (funext fun j => funext fun d => k2_row m ρ c j d))
theorem o6_row (c : Dev nD) (r : Fin 4096) (e : Fin 512) :
    rowO (o6 m ρ c) r e = rowO (o5 m ρ c) r e + V m ρ c (nxt (nxt c)) r e := by
  refine (glueO_row _ r e).trans ((pay22_apply (k2 m ρ c) (v2 m ρ c) _ _ _ e).trans ?_)
  rw [q_row, rdO_row]
  refine congrArg (_ + ·) (congrArg₂ (sumV _) (funext fun j => funext fun d => k2_row m ρ c j d) (funext fun j => v2_row m ρ c j e))

/-- The order in which the pieces arrive does not matter. -/
theorem arrange (a b₁ b₂ n₁ n₂ z : EReal) : a + b₁ + n₂ + b₂ + n₁ + z = a + (b₁ + b₂) + (n₁ + n₂) + z := by
  rw [add_assoc a b₁ n₂, add_comm b₁ n₂, ← add_assoc, add_assoc (a + n₂), add_right_comm a n₂, add_assoc (a + (b₁ + b₂)), add_comm n₂]

/-- **The row sums**: over the four devices' keys. -/
theorem l6_eq (c : Dev nD) (r : Fin 4096) (u : Fin 1) :
    rowL (l6 m ρ c) r u = E m ρ c c r + E m ρ c (prv c) r + E m ρ c (nxt c) r + E m ρ c (nxt (nxt c)) r := by
  rw [l6_row, l5_row, l4_row, l3_row, l2_row, l1_row, arrange, EL_EH, EL_EH]
/-- **The accumulator**: over the four devices' keys and values. -/
theorem o6_eq (c : Dev nD) (r : Fin 4096) (e : Fin 512) :
    rowO (o6 m ρ c) r e = V m ρ c c r e + V m ρ c (prv c) r e + V m ρ c (nxt c) r e + V m ρ c (nxt (nxt c)) r e := by
  rw [o6_row, o5_row, o4_row, o3_row, o2_row, o1_row, arrange, VL_VH, VL_VH]

/-- The four devices in the order a device meets them are the four devices. -/
theorem ring_sum (f : Dev nD → EReal) (c : Dev nD) : f c + f (prv c) + f (nxt c) + f (nxt (nxt c)) = ∑ p : Dev nD, f p := by
  have h : ∑ p : Dev nD, f p = f 0 + f 1 + f 2 + f 3 := Fin.sum_univ_four f
  have key : ∀ c : Dev nD, (c = 0 ∧ prv c = 3 ∧ nxt c = 1 ∧ nxt (nxt c) = 2) ∨ (c = 1 ∧ prv c = 0 ∧ nxt c = 2 ∧ nxt (nxt c) = 3)
      ∨ (c = 2 ∧ prv c = 1 ∧ nxt c = 3 ∧ nxt (nxt c) = 0) ∨ (c = 3 ∧ prv c = 2 ∧ nxt c = 0 ∧ nxt (nxt c) = 1) := by decide
  rw [h]
  rcases key c with ⟨h0, h1, h2, h3⟩ | ⟨h0, h1, h2, h3⟩ | ⟨h0, h1, h2, h3⟩ | ⟨h0, h1, h2, h3⟩ <;> rw [h3, h2, h1, h0]
  · rw [add_right_comm (f 0), add_right_comm (f 0 + f 1)]
  · rw [add_comm (f 1)]
  · rw [add_comm _ (f 0), add_comm (f 2), ← add_assoc, ← add_assoc]
  · rw [add_assoc (f 3 + f 2), add_comm (f 3 + f 2), add_comm (f 3), ← add_assoc]

/-- **What the kernel leaves**: each row's weighted sum over all devices' keys, divided by the sum of the weights. -/
theorem outAt_row (c : Dev nD) (r : Fin 4096) (e : Fin 512) :
    rowO (outAt m ρ c) r e = Ideal.div (∑ p : Dev nD, V m ρ c p r e) (∑ p : Dev nD, E m ρ c p r) := by
  refine (glueO_row _ r e).trans ((pay23_apply _ _ _ e).trans ?_)
  rw [rdO_row, rdL_row, o6_eq, l6_eq, ring_sum (fun p => V m ρ c p r e), ring_sum (fun p => E m ρ c p r)]

end Cert.ValueProof

end
-- ==== Proof.Value.Reference.lean ====
/-
# What the reference computes

Softmax attention as it is written: the scores over the root of the width, each row shifted by its
maximum, exponentiated, normalised, and applied to the values.
-/
module

public import proofs.«01_k».proof.Proof.Gen.ReferenceIdeal.Run
public import proofs.«01_k».proof.Proof.Value.Softmax
public import Idealize.ShloMosaic.Lib.MatmulPlain
public import Idealize.ShloMosaic.Lib.ValueLayout
public import Idealize.ShloMosaic.Lib.IdealHost
public import Idealize.ShloMosaic.Lib.Pointwise

@[expose] public section

noncomputable section

namespace Cert.ValueProof

open Idealize.ShloMosaic hiding ix0 ix1 ix2 ix3
open Idealize.ShloMosaic.ValueIdx
open Cert.ReferenceIdeal Cert.ReferenceIdeal.Gen
open scoped BigOperators

attribute [local instance] Cert.ReferenceIdeal.Gen.facts
open Cert.ReferenceIdeal.Facts

/-- The reference's scores, -/
def scoresR (x0 x1 : FVec Ideal S16384x512 .bf16) : FVec Ideal S16384x16384 .f32 :=
  Host.divf (Host.dotGeneral dot_S16384x512_S512x16384_S16384x16384_1_0_0_1_n_n none (extf .f32 x0 bitsLt_bf16_f32) (transpose S512x16384 [1, 0] (extf .f32 x1 bitsLt_bf16_f32) transposes_S16384x512_S512x16384_1_0)) (broadcastInDim S16384x16384 ![] bcast_S_S16384x16384 (id (Host.sqrt (constant S_ .f32 0x44000000#32))))
/-- a number per row spread over the row, -/
def spreadR (y : FVec Ideal S16384 .f32) : FVec Ideal S16384x16384 .f32 :=
  broadcastInDim S16384x16384 ![0, 1] bcast_S16384x1_S16384x16384_0_1 (broadcastInDim S16384x1 ![0] bcast_S16384_S16384x1_0 y)
/-- each row's maximum, -/
def maxR (x : FVec Ideal S16384x16384 .f32) : FVec Ideal S16384 .f32 :=
  Host.reduce FloatOps.maximumf x (constant S_ .f32 0xFF800000#32) reducesTo_S16384x16384_S16384_d1 h_S_
/-- each row's sum, -/
def sumR (x : FVec Ideal S16384x16384 .f32) : FVec Ideal S16384 .f32 :=
  Host.reduceAdd x (constant S_ .f32 0x00000000#32) reducesTo_S16384x16384_S16384_d1 h_S_
/-- the exponentials of the shifted scores, -/
def expR (x : FVec Ideal S16384x16384 .f32) : FVec Ideal S16384x16384 .f32 := Host.exp (subf x (spreadR (maxR x)))
/-- the result. -/
def attnR (x0 x1 x2 : FVec Ideal S16384x512 .bf16) : FVec Ideal S16384x512 .f32 :=
  Host.dotGeneral dot_S16384x16384_S16384x512_S16384x512_1_0_0_1_n_n none (Host.divf (expR (scoresR x0 x1)) (spreadR (sumR (expR (scoresR x0 x1))))) (extf .f32 x2 bitsLt_bf16_f32)

/-- The reference runs and leaves `attnR` of its arguments. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = attnR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

theorem spreadR_apply (y : FVec Ideal S16384 .f32) (i j : Fin 16384) : spreadR y (ix2 i j) = y (ix1 i) := by
  refine (broadcastInDim_apply _ _ _ _ (ix2 i (0 : Fin 1)) ?_).trans (broadcastInDim_apply _ _ _ _ (ix1 i) ?_)
  · intro a
    match a with
    | ⟨0, _⟩ => rfl
    | ⟨1, _⟩ => rfl
  · intro a
    match a with
    | ⟨0, _⟩ => rfl

/-- The square root of the width, as the reference takes it. -/
theorem root_apply : (Host.sqrt (F := Ideal) (constant S_ .f32 0x44000000#32)) ix0 = ((Real.sqrt 512 : ℝ) : EReal) := by
  refine (congrArg Ideal.sqrt (?_ : Ideal.ofBits .f32 0x44000000#32 = ((512 : ℝ) : EReal))).trans ?_
  · simp [Ideal.ofBits, Ideal.ieee, -EReal.coe_mul]; norm_num
  · rw [Ideal.sqrt_coe, if_neg (by norm_num)]

theorem scoresR_apply (x0 x1 : FVec Ideal S16384x512 .bf16) (i j : Fin 16384) :
    scoresR x0 x1 (ix2 i j) = Ideal.div (∑ d : Fin 512, x0 (ix2 i d) * x1 (ix2 j d)) ((Real.sqrt 512 : ℝ) : EReal) := by
  refine congrArg₂ Ideal.div ((Ideal.matmul_plain_apply (M := 16384) (K := 512) (N := 16384) none _ _ _ i j).trans ?_) ((broadcastInDim_scalar_apply _ _ _).trans root_apply)
  rw [zero_add]
  refine Finset.sum_congr rfl fun d _ => congrArg (x0 (ix2 i d) * ·) ?_
  exact transpose_ix2_apply (extf .f32 x1 bitsLt_bf16_f32) _ d j

theorem maxR_apply (x : FVec Ideal S16384x16384 .f32) (i : Fin 16384) :
    maxR x (ix1 i) = (Finset.univ : Finset (Fin 16384)).fold max (⊥ : EReal) (fun j => x (ix2 i j)) := by
  refine (Host.reduce_eq_fold (max : EReal → EReal → EReal) x _ _ _ (ix1 i)).trans ?_
  rw [show (constant (F := Ideal) S_ .f32 0xFF800000#32) (Shape.Idx.first h_S_) = (⊥ : EReal) from (by simp [Ideal.ofBits, Ideal.ieee] : Ideal.ofBits .f32 0xFF800000#32 = ⊥)]
  exact Shape.ReducesTo.fold_fiber_r2_a1 _ (ix1 i) max ⊥ x

theorem sumR_apply (x : FVec Ideal S16384x16384 .f32) (i : Fin 16384) : sumR x (ix1 i) = ∑ j : Fin 16384, x (ix2 i j) := by
  refine (Ideal.hostReduceAdd_r2_a1 _ x _ (ix1 i)).trans ?_
  rw [show (constant (F := Ideal) S_ .f32 0x00000000#32) (Shape.Idx.first h_S_) = (0 : EReal) from Ideal.ofBits_zero_f32, zero_add]
  rfl

/-- **The reference at an index.** -/
theorem attnR_apply (x0 x1 x2 : FVec Ideal S16384x512 .bf16) (i : Fin 16384) (e : Fin 512) :
    attnR x0 x1 x2 (ix2 i e) = ∑ j : Fin 16384, Ideal.div
      (Ideal.exp (scoresR x0 x1 (ix2 i j) - maxR (scoresR x0 x1) (ix1 i)))
      (∑ j' : Fin 16384, Ideal.exp (scoresR x0 x1 (ix2 i j') - maxR (scoresR x0 x1) (ix1 i))) * x2 (ix2 j e) := by
  have he : ∀ j, expR (scoresR x0 x1) (ix2 i j) = Ideal.exp (scoresR x0 x1 (ix2 i j) - maxR (scoresR x0 x1) (ix1 i)) := fun j =>
    congrArg (fun y => Ideal.exp (scoresR x0 x1 (ix2 i j) - y)) (spreadR_apply _ i j)
  have hd : ∀ j : Fin 16384, (Host.divf (expR (scoresR x0 x1)) (spreadR (sumR (expR (scoresR x0 x1))))) (ix2 i j)
      = Ideal.div (Ideal.exp (scoresR x0 x1 (ix2 i j) - maxR (scoresR x0 x1) (ix1 i)))
          (∑ j' : Fin 16384, Ideal.exp (scoresR x0 x1 (ix2 i j') - maxR (scoresR x0 x1) (ix1 i))) := fun j => by
    rw [hostDivf_apply, spreadR_apply, sumR_apply, he j]
    exact congrArg (Ideal.div _) (Finset.sum_congr rfl fun j' _ => he j')
  refine (Ideal.matmul_plain_apply (M := 16384) (K := 16384) (N := 512) none (Host.divf (expR (scoresR x0 x1)) (spreadR (sumR (expR (scoresR x0 x1))))) (extf .f32 x2 bitsLt_bf16_f32) (fun _ => (0 : EReal)) i e).trans ?_
  rw [zero_add]
  exact Finset.sum_congr rfl fun j _ => by rw [hd j]; rfl

end Cert.ValueProof

end
-- ==== Proof.Value.Equation.lean ====
/-
# The equation

For real queries and keys and any values: the sums over all keys, divided, are the reference's row.
-/
module

public import proofs.«01_k».proof.Proof.Value.Payloads
public import proofs.«01_k».proof.Proof.Value.Reference

@[expose] public section

noncomputable section

namespace Cert.ValueProof

open Idealize.ShloMosaic hiding ix0 ix1 ix2 ix3
open Idealize.ShloMosaic.ValueIdx
open scoped BigOperators

/-- Row `j` of block `p` in the whole array. -/
def glob (p : Fin 4) (j : Fin 4096) : Fin 16384 := ⟨p.val * 4096 + j.val, by have := p.isLt; have := j.isLt; omega⟩

/-- A sum over all rows, block by block. -/
theorem sum_glob (f : Fin 16384 → EReal) : ∑ p : Fin 4, ∑ j : Fin 4096, f (glob p j) = ∑ i, f i := by
  rw [← Fintype.sum_prod_type' (fun p j => f (glob p j))]
  refine (Fintype.sum_equiv (finProdFinEquiv (m := 4) (n := 4096)) _ f fun x => congrArg f (Fin.ext ?_))
  show x.1.val * 4096 + x.2.val = x.2.val + 4096 * x.1.val
  omega

/-- **The equation**: the weighted sums over the four blocks of keys, divided by the sums of the weights, are the
reference's row, when every query and every key is a real; the values may be anything. -/
theorem equation (X0 X1 X2 : FVec Ideal Cert.ReferenceIdeal.S16384x512 .bf16)
    (h0 : ∀ (i : Fin 16384) (d : Fin 512), ∃ x : ℝ, X0 (ix2 i d) = (x : EReal))
    (h1 : ∀ (i : Fin 16384) (d : Fin 512), ∃ x : ℝ, X1 (ix2 i d) = (x : EReal)) (i : Fin 16384) (e : Fin 512) :
    Ideal.div (∑ p : Fin 4, sumV (fun d => X0 (ix2 i d)) (fun (j : Fin 4096) d => X1 (ix2 (glob p j) d)) (fun j => X2 (ix2 (glob p j) e)))
        (∑ p : Fin 4, sumE (fun d => X0 (ix2 i d)) (fun (j : Fin 4096) d => X1 (ix2 (glob p j) d)))
      = attnR X0 X1 X2 (ix2 i e) := by
  choose a ha using h0
  choose b hb using h1
  have hs : ∀ j, score (fun d => X0 (ix2 i d)) (fun d => X1 (ix2 j d)) = (((∑ d, a i d * b j d) * (Real.sqrt 512)⁻¹ : ℝ) : EReal) := fun j => by
    rw [show (fun d => X0 (ix2 i d)) = fun d => ((a i d : ℝ) : EReal) from funext (ha i), show (fun d => X1 (ix2 j d)) = fun d => ((b j d : ℝ) : EReal) from funext (hb j)]
    exact score_real (a i) (b j) _
  have hr : ∀ j, scoresR X0 X1 (ix2 i j) = (((∑ d, a i d * b j d) * (Real.sqrt 512)⁻¹ : ℝ) : EReal) := fun j => by
    rw [scoresR_apply, Ideal.div_coe (Real.sqrt_ne_zero'.mpr (by norm_num)), one_div, EReal.coe_mul, ← coe_sum]
    exact congrArg (· * _) (Finset.sum_congr rfl fun d _ => by rw [ha, hb, EReal.coe_mul])
  obtain ⟨M, hM⟩ := fold_max_real (Finset.univ : Finset (Fin 16384)) (fun j => (∑ d, a i d * b j d) * (Real.sqrt 512)⁻¹) ⟨0, Finset.mem_univ _⟩
  have hm : maxR (scoresR X0 X1) (ix1 i) = (M : EReal) := by
    rw [maxR_apply, ← hM]
    exact congrArg (Finset.fold max (⊥ : EReal) · Finset.univ) (funext hr)
  rw [attnR_apply, hm]
  have e1 : ∑ p : Fin 4, sumV (fun d => X0 (ix2 i d)) (fun (j : Fin 4096) d => X1 (ix2 (glob p j) d)) (fun j => X2 (ix2 (glob p j) e))
      = ∑ j, Ideal.exp ((((∑ d, a i d * b j d) * (Real.sqrt 512)⁻¹ : ℝ) : EReal)) * X2 (ix2 j e) :=
    (sum_glob fun j => Ideal.exp (score (fun d => X0 (ix2 i d)) (fun d => X1 (ix2 j d))) * X2 (ix2 j e)).trans
      (Finset.sum_congr rfl fun j _ => by rw [hs])
  have e2 : ∑ p : Fin 4, sumE (fun d => X0 (ix2 i d)) (fun (j : Fin 4096) d => X1 (ix2 (glob p j) d))
      = ∑ j, Ideal.exp ((((∑ d, a i d * b j d) * (Real.sqrt 512)⁻¹ : ℝ) : EReal)) :=
    (sum_glob fun j => Ideal.exp (score (fun d => X0 (ix2 i d)) (fun d => X1 (ix2 j d)))).trans
      (Finset.sum_congr rfl fun j _ => by rw [hs])
  rw [e1, e2, row _ _ M]
  have e3 : ∑ j' : Fin 16384, Ideal.exp (scoresR X0 X1 (ix2 i j') - (M : EReal))
      = ∑ j', Ideal.exp ((((∑ d, a i d * b j' d) * (Real.sqrt 512)⁻¹ : ℝ) : EReal) - (M : EReal)) :=
    Finset.sum_congr rfl fun j' _ => by rw [hr]
  rw [e3]
  exact Finset.sum_congr rfl fun j _ => by rw [hr]

end Cert.ValueProof

end
-- ==== Proof.Value.Finite.lean ====
/-
# The precondition: every query and every key is a real number
-/
module

public import proofs.«01_k».proof.Pre_finite_queries_and_keys_KernelIdeal
public import proofs.«01_k».proof.Pre_finite_queries_and_keys_ReferenceIdeal
public import Idealize.ShloMosaic.Lib.ReduceAll
public import Idealize.ShloMosaic.Lib.ValueIdx
public import Idealize.ShloMosaic.Lib.Affine
public import Idealize.ShloMosaic.PureOps.Ideal
public import Idealize.ShloMosaic.PureOps.Ideal.Laws

@[expose] public section

noncomputable section

namespace Cert.ValueProof

open Idealize.ShloMosaic

/-- The side conditions of the predicate's operations, on one device's blocks, -/
theorem facts_blocks : Cert.Pre_finite_queries_and_keys_KernelIdeal.Facts where
  bitsLt_bf16_f32 := by decide
  bcast_S_S4096x512 := by decide
  reducesTo_S4096x512_S_d0_1 := by decide
  h_S_ := by decide
/-- and on the whole arrays. -/
theorem facts_whole : Cert.Pre_finite_queries_and_keys_ReferenceIdeal.Facts where
  bitsLt_bf16_f32 := by decide
  bcast_S_S16384x512 := by decide
  reducesTo_S16384x512_S_d0_1 := by decide
  h_S_ := by decide

open Cert.Pre_finite_queries_and_keys_KernelIdeal

/-- A number whose absolute value is below `⊤` is a real. -/
theorem real_of_abs (x : EReal) (h : max x (-x) < ⊤) : ∃ r : ℝ, x = (r : EReal) := by
  have ht : x ≠ ⊤ := fun e => by rw [e] at h; exact absurd h (by simp)
  have hb : x ≠ ⊥ := fun e => by rw [e] at h; exact absurd h (by simp)
  exact ⟨x.toReal, (EReal.coe_toReal ht hb).symm⟩

/-- One half of the predicate, read back at an index. -/
theorem real_of_all [Facts] (x : FVec Ideal S4096x512 .bf16) (j0 : S_.Idx)
    (h : Host.reduce IntOp.andi (cmpf .olt (Host.absf (extf (F := Ideal) .f32 x Facts.bitsLt_bf16_f32))
      (broadcastInDim S4096x512 ![] Facts.bcast_S_S4096x512 (constant (F := Ideal) S_ .f32 0x7F800000#32))) (constantI S_ 1 1#1)
      Facts.reducesTo_S4096x512_S_d0_1 Facts.h_S_ j0 = 1#1) (j : S4096x512.Idx) : ∃ r : ℝ, x j = (r : EReal) := by
  haveI : Subsingleton S_.Idx := ⟨fun a b => funext fun i => i.elim0⟩
  have hj := Host.reduce_andi_all _ _ _ _ j0 h j
  have ht : Ideal.ofBits .f32 0x7F800000#32 = ⊤ := by simp [Ideal.ofBits, Ideal.ieee]
  have hj' : BitVec.ofBool (decide (max (x j : EReal) (-(x j : EReal)) < Ideal.ofBits .f32 0x7F800000#32)) = 1#1 := hj
  rw [ht] at hj'
  by_cases hlt : max (x j : EReal) (-(x j : EReal)) < ⊤
  · exact real_of_abs _ hlt
  · rw [decide_eq_false hlt] at hj'
    exact absurd hj' (by decide)

/-- The predicate of one device's blocks makes its queries and its keys real. -/
theorem reals_of_fn [Facts] (x0 x1 x2 : FVec Ideal S4096x512 .bf16) (h : fn (F := Ideal) x0 x1 x2 = fun _ => 1#1) :
    (∀ j, ∃ r : ℝ, x0 j = (r : EReal)) ∧ ∀ j, ∃ r : ℝ, x1 j = (r : EReal) := by
  have h' := congrFun h (fun a => a.elim0)
  have h2 := (IntOp.andi_eq_one).mp h'
  exact ⟨real_of_all x0 _ h2.1, real_of_all x1 _ h2.2⟩

end Cert.ValueProof

end
-- ==== Proof.Value.Algebraic.lean ====
/-
# The value claim

Each device's result is its block of the reference's.
-/
module

public import proofs.«01_k».proof.Defs
public import proofs.«01_k».proof.Proof.KernelIdeal.Launch
public import proofs.«01_k».proof.Proof.Value.Blocks
public import proofs.«01_k».proof.Proof.Value.Equation
public import proofs.«01_k».proof.Proof.Value.Finite
public import Idealize.ShloMosaic.Lib.Layout

@[expose] public section

noncomputable section

namespace Cert.ValueProof

open Idealize.ShloMosaic hiding ix0 ix1 ix2 ix3 eq_ix2
open Idealize.ShloMosaic.TcCoe
open Idealize.ShloMosaic.ValueIdx
open Idealize.SL.Sem
open Cert.KernelIdeal Cert.KernelIdeal.Gen Cert.KernelIdealProof
open scoped BigOperators

attribute [local instance] Cert.KernelIdeal.Gen.facts Cert.ReferenceIdeal.Gen.facts facts_blocks

variable (m : (ℓ : Loc nD τ sig) → Buf (Elt Ideal) ℓ) (ρ : Dev nD → PrngReg)

/-- The result array ends at what the program left in its window. -/
theorem finalA_3 (c : Dev nD) : finalA m ρ c (3 : Fin 4) = outAt m ρ c := by
  have h : (win0_3.blk (0 : Fin 1)).view.read (Elt Ideal) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 :=
    funext fun a => by fin_cases a <;> decide
  rw [← h]
  exact (Memref.read_access_unit_zero (Elt Ideal) main_v1 hz (fun a => by fin_cases a <;> decide) _).symm

/-- The staged queries, keys and values are the argument arrays. -/
theorem qst_eq (c : Dev nD) : qst m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
theorem kst_eq (c : Dev nD) : kst m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _
theorem vst_eq (c : Dev nD) : vst m ρ c = m ((c : Thread nD τ).loc main_arg2) := by
  have hz : (fun a => (win0_2.index (0 : Fin 1)) a * main_arg2.ty.shape.size a) = fun _ => 0 :=
    funext fun a => by fin_cases a <;> decide
  exact Memref.read_access_unit_zero (Elt Ideal) main_arg2 hz (fun a => by fin_cases a <;> decide) _

/-- Row `j` of block `p` is row `glob p j` of the whole. -/
theorem block_row {α : Type} (X : (⟨2, ![16384, 512]⟩ : Shape).Idx → α) (p : Fin 4) (j : Fin 4096) (d : Fin 512) :
    Layout.block ⟨2, ![4096, 512]⟩ ⟨2, ![16384, 512]⟩ 0 4 p X (by decide) (ix2 j d) = X (ix2 (glob p j) d) := by
  rw [Layout.block_apply]
  refine congrArg X (funext fun a => Fin.ext ?_)
  match a with
  | ⟨0, _⟩ => rfl
  | ⟨1, _⟩ => rfl

/-- Every row of the whole is a row of a block. -/
theorem exists_glob (i : Fin 16384) : ∃ p j, i = glob p j :=
  ⟨⟨i.val / 4096, by have := i.isLt; omega⟩, ⟨i.val % 4096, Nat.mod_lt _ (by decide)⟩,
    Fin.ext (by show i.val = i.val / 4096 * 4096 + i.val % 4096; omega)⟩

/-- A device's result is its block of the reference's. -/
theorem outAt_block (X0 X1 X2 : FVec Ideal Cert.ReferenceIdeal.S16384x512 .bf16)
    (h0 : ∀ p : Dev nD, m ((p : Thread nD τ).loc main_arg0) = Layout.block ⟨2, ![4096, 512]⟩ ⟨2, ![16384, 512]⟩ 0 4 p X0 (by decide))
    (h1 : ∀ p : Dev nD, m ((p : Thread nD τ).loc main_arg1) = Layout.block ⟨2, ![4096, 512]⟩ ⟨2, ![16384, 512]⟩ 0 4 p X1 (by decide))
    (h2 : ∀ p : Dev nD, m ((p : Thread nD τ).loc main_arg2) = Layout.block ⟨2, ![4096, 512]⟩ ⟨2, ![16384, 512]⟩ 0 4 p X2 (by decide))
    (hq : ∀ (i : Fin 16384) (d : Fin 512), ∃ x : ℝ, X0 (ix2 i d) = (x : EReal))
    (hk : ∀ (i : Fin 16384) (d : Fin 512), ∃ x : ℝ, X1 (ix2 i d) = (x : EReal)) (c : Dev nD) :
    outAt m ρ c = Layout.block ⟨2, ![4096, 512]⟩ ⟨2, ![16384, 512]⟩ 0 4 c (attnR X0 X1 X2) (by decide) := by
  funext (j : S4096x512.Idx)
  obtain ⟨r, e, rfl⟩ : ∃ (r : Fin 4096) (e : Fin 512), j = ix2 r e := ⟨j 0, j 1, eq_ix2 j⟩
  refine (outAt_row m ρ c r e).trans (Eq.trans ?_ (block_row _ c r e).symm)
  rw [← equation X0 X1 X2 hq hk]
  have eq : qrow m ρ c r = fun d => X0 (ix2 (glob c r) d) := funext fun d => by
    unfold qrow; rw [qst_eq, h0 c]; exact block_row X0 c r d
  have ek : ∀ p, keys m ρ p = fun j d => X1 (ix2 (glob p j) d) := fun p => funext fun j => funext fun d => by
    unfold keys; rw [kst_eq, h1 p]; exact block_row X1 p j d
  have ev : ∀ p, vals m ρ p e = fun j => X2 (ix2 (glob p j) e) := fun p => funext fun j => by
    unfold vals; rw [vst_eq, h2 p]; exact block_row X2 p j e
  refine congrArg₂ Ideal.div (Finset.sum_congr rfl fun p _ => ?_) (Finset.sum_congr rfl fun p _ => ?_)
  · unfold V; rw [eq, ek, ev]
  · unfold E; rw [eq, ek]

/-- **The kernel leaves, on each device, its block of the reference's result**, when every query and every key is a real. -/
theorem algebraic : Cert.algebraic_KernelIdeal_ReferenceIdeal_pre_finite_queries_and_keys_KernelIdeal := by
  intro m ρ m' ρ' hpre hagree
  refine ⟨attnR (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2)), ?_, ?_⟩
  · refine (θ_run defs _ _).mono (fun _ h c => ⟨((h.1 c (3 : Fin 4)).trans (finalA_3 m ρ c)).trans
        (outAt_block m ρ _ _ _ (fun p => (hagree p).1) (fun p => (hagree p).2.1) (fun p => (hagree p).2.2) ?_ ?_ c),
      (h.1 c (0 : Fin 4)).trans (finalA_0 m ρ c), (h.1 c (1 : Fin 4)).trans (finalA_1 m ρ c), (h.1 c (2 : Fin 4)).trans (finalA_2 m ρ c)⟩)
      (run_main (F := Ideal) m ρ)
    · intro i d
      obtain ⟨p, j, rfl⟩ := exists_glob i
      obtain ⟨x, hx⟩ := (reals_of_fn _ _ _ (hpre p)).1 (ix2 j d)
      rw [(hagree p).1] at hx
      exact ⟨x, (block_row _ p j d).symm.trans hx⟩
    · intro i d
      obtain ⟨p, j, rfl⟩ := exists_glob i
      obtain ⟨x, hx⟩ := (reals_of_fn _ _ _ (hpre p)).2 (ix2 j d)
      rw [(hagree p).2.1] at hx
      exact ⟨x, (block_row _ p j d).symm.trans hx⟩
  · exact (θ_run Cert.ReferenceIdeal.defs _ _).mono (fun _ h => h 0) (ref_run m' ρ')

end Cert.ValueProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Algebraic
public import Idealize.ShloMosaic.Lib.Quiescent

/-!
# The claims, assembled

The two frames of the kernel come from its one run (`run_main`, once over words and once over the
extended reals); the reference's from its list of operations.  The named constant is its rule's own
statement.  The equality of kernel and reference is `Cert.ValueProof.algebraic`.
-/

@[expose] public section

noncomputable section

namespace Cert.Proof

open Idealize.ShloMosaic Idealize.SL.Sem

attribute [local instance] Cert.Kernel.Gen.facts Cert.KernelIdeal.Gen.facts Cert.ReferenceIdeal.Gen.facts
  Cert.ValueProof.facts_blocks Cert.ValueProof.facts_whole

/-- The kernel over words terminates, leaves its arguments unchanged and every counter at zero. -/
theorem frame_Kernel : Cert.quiescent_Kernel := fun m g _ =>
  (θ_run Cert.Kernel.defs _ _).mono (fun _ h => ⟨fun c =>
      ⟨(h.1 c 0).trans (Cert.KernelProof.finalA_0 m g c), (h.1 c 1).trans (Cert.KernelProof.finalA_1 m g c),
        (h.1 c 2).trans (Cert.KernelProof.finalA_2 m g c)⟩, h.2⟩)
    (Cert.KernelProof.run_main (F := Bits) m g)

/-- The kernel over the extended reals terminates, leaves its arguments unchanged and every counter
at zero. -/
theorem frame_KernelIdeal : Cert.quiescent_KernelIdeal := fun m g _ =>
  (θ_run Cert.KernelIdeal.defs _ _).mono (fun _ h => ⟨fun c =>
      ⟨(h.1 c 0).trans (Cert.KernelIdealProof.finalA_0 m g c), (h.1 c 1).trans (Cert.KernelIdealProof.finalA_1 m g c),
        (h.1 c 2).trans (Cert.KernelIdealProof.finalA_2 m g c)⟩, h.2⟩)
    (Cert.KernelIdealProof.run_main (F := Ideal) m g)

/-- The reference over the extended reals terminates and leaves its arguments unchanged; it has no
semaphores at all. -/
theorem frame_ReferenceIdeal : Cert.quiescent_ReferenceIdeal := fun m g _ =>
  (θ_run Cert.ReferenceIdeal.defs _ _).mono (fun r h => ⟨fun c => (h c).2,
      sem_eq_zero_of_no_sems (by decide) r.2⟩)
    (Cert.ReferenceIdeal.Value.run (F := Ideal) m g)

/-- The idealized kernel is the kernel, with the rounded 1/√512 read as the real number it stands for. -/
theorem preserves : Cert.preserves_Kernel_KernelIdeal :=
  IdealRules.named_const.statement Cert.KernelIdeal.κ "inv_sqrt_d" .bf16 0x3D35#16 _ rfl

/-- Every claim of the certificate. A frame under the precondition is the frame without it. -/
theorem claim : Cert.Claim :=
  ⟨Cert.Kernel.Gen.facts, Cert.KernelIdeal.Gen.facts, Cert.ReferenceIdeal.Gen.facts, Cert.ValueProof.facts_blocks, Cert.ValueProof.facts_whole,
    frame_Kernel, frame_KernelIdeal, fun m g _ => frame_KernelIdeal m g trivial,
    frame_ReferenceIdeal, fun m g _ => frame_ReferenceIdeal m g trivial, preserves, Cert.ValueProof.algebraic⟩

end Cert.Proof

end
